-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x28x28x1 : Shape := ⟨4, ![4096, 28, 28, 1]⟩
abbrev S3x3x1x32 : Shape := ⟨4, ![3, 3, 1, 32]⟩
abbrev S32 : Shape := ⟨1, ![32]⟩
abbrev S3x3x32x64 : Shape := ⟨4, ![3, 3, 32, 64]⟩
abbrev S64 : Shape := ⟨1, ![64]⟩
abbrev S1600x5 : Shape := ⟨2, ![1600, 5]⟩
abbrev S5 : Shape := ⟨1, ![5]⟩
abbrev S5x1600x10 : Shape := ⟨3, ![5, 1600, 10]⟩
abbrev S5x10 : Shape := ⟨2, ![5, 10]⟩
abbrev S4096x28x28 : Shape := ⟨3, ![4096, 28, 28]⟩
abbrev S_ : Shape := ⟨0, ![]⟩
abbrev S4096x28x32 : Shape := ⟨3, ![4096, 28, 32]⟩
abbrev S4096x896 : Shape := ⟨2, ![4096, 896]⟩
abbrev S1x3x1x32 : Shape := ⟨4, ![1, 3, 1, 32]⟩
abbrev S3x32 : Shape := ⟨2, ![3, 32]⟩
abbrev S24x3x32 : Shape := ⟨3, ![24, 3, 32]⟩
abbrev S24x29x32 : Shape := ⟨3, ![24, 29, 32]⟩
abbrev S696x32 : Shape := ⟨2, ![696, 32]⟩
abbrev S672x32 : Shape := ⟨2, ![672, 32]⟩
abbrev S24x28x32 : Shape := ⟨3, ![24, 28, 32]⟩
abbrev S24x32x32 : Shape := ⟨3, ![24, 32, 32]⟩
abbrev S768x32 : Shape := ⟨2, ![768, 32]⟩
abbrev S768x96 : Shape := ⟨2, ![768, 96]⟩
abbrev S1x3x32x64 : Shape := ⟨4, ![1, 3, 32, 64]⟩
abbrev S3x32x64 : Shape := ⟨3, ![3, 32, 64]⟩
abbrev S10x3x32x64 : Shape := ⟨4, ![10, 3, 32, 64]⟩
abbrev S10x13x32x64 : Shape := ⟨4, ![10, 13, 32, 64]⟩
abbrev S130x32x64 : Shape := ⟨3, ![130, 32, 64]⟩
abbrev S120x32x64 : Shape := ⟨3, ![120, 32, 64]⟩
abbrev S10x12x32x64 : Shape := ⟨4, ![10, 12, 32, 64]⟩
abbrev S10x64x12x32 : Shape := ⟨4, ![10, 64, 12, 32]⟩
abbrev S640x384 : Shape := ⟨2, ![640, 384]⟩
abbrev S640x1152 : Shape := ⟨2, ![640, 1152]⟩
abbrev S5x10x1600 : Shape := ⟨3, ![5, 10, 1600]⟩
abbrev S50x1600 : Shape := ⟨2, ![50, 1600]⟩
abbrev S5x1600 : Shape := ⟨2, ![5, 1600]⟩
abbrev S55x1600 : Shape := ⟨2, ![55, 1600]⟩
abbrev S1x32 : Shape := ⟨2, ![1, 32]⟩
abbrev S12x32 : Shape := ⟨2, ![12, 32]⟩
abbrev S384 : Shape := ⟨1, ![384]⟩
abbrev S384x1 : Shape := ⟨2, ![384, 1]⟩
abbrev S384x512 : Shape := ⟨2, ![384, 512]⟩
abbrev S1x64 : Shape := ⟨2, ![1, 64]⟩
abbrev S5x64 : Shape := ⟨2, ![5, 64]⟩
abbrev S320 : Shape := ⟨1, ![320]⟩
abbrev S320x1 : Shape := ⟨2, ![320, 1]⟩
abbrev S320x512 : Shape := ⟨2, ![320, 512]⟩
abbrev S50 : Shape := ⟨1, ![50]⟩
abbrev S55 : Shape := ⟨1, ![55]⟩
abbrev S55x1 : Shape := ⟨2, ![55, 1]⟩
abbrev S55x512 : Shape := ⟨2, ![55, 512]⟩
abbrev S10x4096 : Shape := ⟨2, ![10, 4096]⟩
abbrev S512x896 : Shape := ⟨2, ![512, 896]⟩
abbrev S10x512 : Shape := ⟨2, ![10, 512]⟩
abbrev S896x512 : Shape := ⟨2, ![896, 512]⟩
abbrev S96x512 : Shape := ⟨2, ![96, 512]⟩
abbrev S96x6144 : Shape := ⟨2, ![96, 6144]⟩
abbrev S768x6144 : Shape := ⟨2, ![768, 6144]⟩
abbrev S768x512 : Shape := ⟨2, ![768, 512]⟩
abbrev S12x2x32x512 : Shape := ⟨4, ![12, 2, 32, 512]⟩
abbrev S12x32x512 : Shape := ⟨3, ![12, 32, 512]⟩
abbrev S1x384x512 : Shape := ⟨3, ![1, 384, 512]⟩
abbrev S12x384x512 : Shape := ⟨3, ![12, 384, 512]⟩
abbrev S3x384x512 : Shape := ⟨3, ![3, 384, 512]⟩
abbrev S1152x512 : Shape := ⟨2, ![1152, 512]⟩
abbrev S1152x5120 : Shape := ⟨2, ![1152, 5120]⟩
abbrev S640x5120 : Shape := ⟨2, ![640, 5120]⟩
abbrev S640x512 : Shape := ⟨2, ![640, 512]⟩
abbrev S5x2x64x512 : Shape := ⟨4, ![5, 2, 64, 512]⟩
abbrev S5x64x512 : Shape := ⟨3, ![5, 64, 512]⟩
abbrev S1600x512 : Shape := ⟨2, ![1600, 512]⟩
abbrev S50x512 : Shape := ⟨2, ![50, 512]⟩
abbrev S5x512 : Shape := ⟨2, ![5, 512]⟩
abbrev S512 : Shape := ⟨1, ![512]⟩
abbrev S1x512 : Shape := ⟨2, ![1, 512]⟩
abbrev S4096x10 : Shape := ⟨2, ![4096, 10]⟩

abbrev nBuf : Space → Nat
  | .hbm => 114
  | .vmem => 10
  | .smem => 0
  | _ => 0

abbrev bufTy : (tb : Table) → Fin (tcTables nBuf tb) → BufTy
  | .hbm, ⟨0, _⟩ => ⟨S4096x28x28x1, .f32⟩
  | .hbm, ⟨1, _⟩ => ⟨S3x3x1x32, .f32⟩
  | .hbm, ⟨2, _⟩ => ⟨S32, .f32⟩
  | .hbm, ⟨3, _⟩ => ⟨S3x3x32x64, .f32⟩
  | .hbm, ⟨4, _⟩ => ⟨S64, .f32⟩
  | .hbm, ⟨5, _⟩ => ⟨S1600x5, .f32⟩
  | .hbm, ⟨6, _⟩ => ⟨S5, .f32⟩
  | .hbm, ⟨7, _⟩ => ⟨S5x1600x10, .f32⟩
  | .hbm, ⟨8, _⟩ => ⟨S5x10, .f32⟩
  | .hbm, ⟨9, _⟩ => ⟨S4096x28x28, .f32⟩
  | .hbm, ⟨10, _⟩ => ⟨S_, .i32⟩
  | .hbm, ⟨11, _⟩ => ⟨S_, .f32⟩
  | .hbm, ⟨12, _⟩ => ⟨S4096x28x32, .f32⟩
  | .hbm, ⟨13, _⟩ => ⟨S4096x896, .f32⟩
  | .hbm, ⟨14, _⟩ => ⟨S1x3x1x32, .f32⟩
  | .hbm, ⟨15, _⟩ => ⟨S3x32, .f32⟩
  | .hbm, ⟨16, _⟩ => ⟨S24x3x32, .f32⟩
  | .hbm, ⟨17, _⟩ => ⟨S_, .i32⟩
  | .hbm, ⟨18, _⟩ => ⟨S_, .f32⟩
  | .hbm, ⟨19, _⟩ => ⟨S24x29x32, .f32⟩
  | .hbm, ⟨20, _⟩ => ⟨S696x32, .f32⟩
  | .hbm, ⟨21, _⟩ => ⟨S672x32, .f32⟩
  | .hbm, ⟨22, _⟩ => ⟨S24x28x32, .f32⟩
  | .hbm, ⟨23, _⟩ => ⟨S_, .i32⟩
  | .hbm, ⟨24, _⟩ => ⟨S_, .f32⟩
  | .hbm, ⟨25, _⟩ => ⟨S24x32x32, .f32⟩
  | .hbm, ⟨26, _⟩ => ⟨S24x32x32, .f32⟩
  | .hbm, ⟨27, _⟩ => ⟨S768x32, .f32⟩
  | .hbm, ⟨28, _⟩ => ⟨S1x3x1x32, .f32⟩
  | .hbm, ⟨29, _⟩ => ⟨S3x32, .f32⟩
  | .hbm, ⟨30, _⟩ => ⟨S24x3x32, .f32⟩
  | .hbm, ⟨31, _⟩ => ⟨S_, .i32⟩
  | .hbm, ⟨32, _⟩ => ⟨S_, .f32⟩
  | .hbm, ⟨33, _⟩ => ⟨S24x29x32, .f32⟩
  | .hbm, ⟨34, _⟩ => ⟨S696x32, .f32⟩
  | .hbm, ⟨35, _⟩ => ⟨S672x32, .f32⟩
  | .hbm, ⟨36, _⟩ => ⟨S24x28x32, .f32⟩
  | .hbm, ⟨37, _⟩ => ⟨S_, .i32⟩
  | .hbm, ⟨38, _⟩ => ⟨S_, .f32⟩
  | .hbm, ⟨39, _⟩ => ⟨S24x32x32, .f32⟩
  | .hbm, ⟨40, _⟩ => ⟨S24x32x32, .f32⟩
  | .hbm, ⟨41, _⟩ => ⟨S768x32, .f32⟩
  | .hbm, ⟨42, _⟩ => ⟨S1x3x1x32, .f32⟩
  | .hbm, ⟨43, _⟩ => ⟨S3x32, .f32⟩
  | .hbm, ⟨44, _⟩ => ⟨S24x3x32, .f32⟩
  | .hbm, ⟨45, _⟩ => ⟨S_, .i32⟩
  | .hbm, ⟨46, _⟩ => ⟨S_, .f32⟩
  | .hbm, ⟨47, _⟩ => ⟨S24x29x32, .f32⟩
  | .hbm, ⟨48, _⟩ => ⟨S696x32, .f32⟩
  | .hbm, ⟨49, _⟩ => ⟨S672x32, .f32⟩
  | .hbm, ⟨50, _⟩ => ⟨S24x28x32, .f32⟩
  | .hbm, ⟨51, _⟩ => ⟨S_, .i32⟩
  | .hbm, ⟨52, _⟩ => ⟨S_, .f32⟩
  | .hbm, ⟨53, _⟩ => ⟨S24x32x32, .f32⟩
  | .hbm, ⟨54, _⟩ => ⟨S24x32x32, .f32⟩
  | .hbm, ⟨55, _⟩ => ⟨S768x32, .f32⟩
  | .hbm, ⟨56, _⟩ => ⟨S768x96, .f32⟩
  | .hbm, ⟨57, _⟩ => ⟨S768x96, .bf16⟩
  | .hbm, ⟨58, _⟩ => ⟨S1x3x32x64, .f32⟩
  | .hbm, ⟨59, _⟩ => ⟨S3x32x64, .f32⟩
  | .hbm, ⟨60, _⟩ => ⟨S10x3x32x64, .f32⟩
  | .hbm, ⟨61, _⟩ => ⟨S_, .i32⟩
  | .hbm, ⟨62, _⟩ => ⟨S_, .f32⟩
  | .hbm, ⟨63, _⟩ => ⟨S10x13x32x64, .f32⟩
  | .hbm, ⟨64, _⟩ => ⟨S130x32x64, .f32⟩
  | .hbm, ⟨65, _⟩ => ⟨S120x32x64, .f32⟩
  | .hbm, ⟨66, _⟩ => ⟨S10x12x32x64, .f32⟩
  | .hbm, ⟨67, _⟩ => ⟨S10x64x12x32, .f32⟩
  | .hbm, ⟨68, _⟩ => ⟨S640x384, .f32⟩
  | .hbm, ⟨69, _⟩ => ⟨S1x3x32x64, .f32⟩
  | .hbm, ⟨70, _⟩ => ⟨S3x32x64, .f32⟩
  | .hbm, ⟨71, _⟩ => ⟨S10x3x32x64, .f32⟩
  | .hbm, ⟨72, _⟩ => ⟨S_, .i32⟩
  | .hbm, ⟨73, _⟩ => ⟨S_, .f32⟩
  | .hbm, ⟨74, _⟩ => ⟨S10x13x32x64, .f32⟩
  | .hbm, ⟨75, _⟩ => ⟨S130x32x64, .f32⟩
  | .hbm, ⟨76, _⟩ => ⟨S120x32x64, .f32⟩
  | .hbm, ⟨77, _⟩ => ⟨S10x12x32x64, .f32⟩
  | .hbm, ⟨78, _⟩ => ⟨S10x64x12x32, .f32⟩
  | .hbm, ⟨79, _⟩ => ⟨S640x384, .f32⟩
  | .hbm, ⟨80, _⟩ => ⟨S1x3x32x64, .f32⟩
  | .hbm, ⟨81, _⟩ => ⟨S3x32x64, .f32⟩
  | .hbm, ⟨82, _⟩ => ⟨S10x3x32x64, .f32⟩
  | .hbm, ⟨83, _⟩ => ⟨S_, .i32⟩
  | .hbm, ⟨84, _⟩ => ⟨S_, .f32⟩
  | .hbm, ⟨85, _⟩ => ⟨S10x13x32x64, .f32⟩
  | .hbm, ⟨86, _⟩ => ⟨S130x32x64, .f32⟩
  | .hbm, ⟨87, _⟩ => ⟨S120x32x64, .f32⟩
  | .hbm, ⟨88, _⟩ => ⟨S10x12x32x64, .f32⟩
  | .hbm, ⟨89, _⟩ => ⟨S10x64x12x32, .f32⟩
  | .hbm, ⟨90, _⟩ => ⟨S640x384, .f32⟩
  | .hbm, ⟨91, _⟩ => ⟨S640x1152, .f32⟩
  | .hbm, ⟨92, _⟩ => ⟨S640x1152, .bf16⟩
  | .hbm, ⟨93, _⟩ => ⟨S5x10x1600, .f32⟩
  | .hbm, ⟨94, _⟩ => ⟨S50x1600, .f32⟩
  | .hbm, ⟨95, _⟩ => ⟨S5x1600, .f32⟩
  | .hbm, ⟨96, _⟩ => ⟨S55x1600, .f32⟩
  | .hbm, ⟨97, _⟩ => ⟨S55x1600, .bf16⟩
  | .hbm, ⟨98, _⟩ => ⟨S1x32, .f32⟩
  | .hbm, ⟨99, _⟩ => ⟨S12x32, .f32⟩
  | .hbm, ⟨100, _⟩ => ⟨S384, .f32⟩
  | .hbm, ⟨101, _⟩ => ⟨S384x1, .f32⟩
  | .hbm, ⟨102, _⟩ => ⟨S384x512, .f32⟩
  | .hbm, ⟨103, _⟩ => ⟨S1x64, .f32⟩
  | .hbm, ⟨104, _⟩ => ⟨S5x64, .f32⟩
  | .hbm, ⟨105, _⟩ => ⟨S320, .f32⟩
  | .hbm, ⟨106, _⟩ => ⟨S320x1, .f32⟩
  | .hbm, ⟨107, _⟩ => ⟨S320x512, .f32⟩
  | .hbm, ⟨108, _⟩ => ⟨S50, .f32⟩
  | .hbm, ⟨109, _⟩ => ⟨S55, .f32⟩
  | .hbm, ⟨110, _⟩ => ⟨S55x1, .f32⟩
  | .hbm, ⟨111, _⟩ => ⟨S55x512, .f32⟩
  | .hbm, ⟨112, _⟩ => ⟨S10x4096, .f32⟩
  | .hbm, ⟨113, _⟩ => ⟨S4096x10, .f32⟩
  | .local _ .vmem, ⟨0, _⟩ => ⟨S512x896, .f32⟩
  | .local _ .vmem, ⟨1, _⟩ => ⟨S512x896, .f32⟩
  | .local _ .vmem, ⟨2, _⟩ => ⟨S768x96, .bf16⟩
  | .local _ .vmem, ⟨3, _⟩ => ⟨S640x1152, .bf16⟩
  | .local _ .vmem, ⟨4, _⟩ => ⟨S55x1600, .bf16⟩
  | .local _ .vmem, ⟨5, _⟩ => ⟨S384x512, .f32⟩
  | .local _ .vmem, ⟨6, _⟩ => ⟨S320x512, .f32⟩
  | .local _ .vmem, ⟨7, _⟩ => ⟨S55x512, .f32⟩
  | .local _ .vmem, ⟨8, _⟩ => ⟨S10x512, .f32⟩
  | .local _ .vmem, ⟨9, _⟩ => ⟨S10x512, .f32⟩
  | _, _ => ⟨S4096x28x28x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_call1_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_call2_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_call3_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_call4_v0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_call5_v0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_call6_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_6 : Ref sig .tc := ⟨.hbm, 61, rfl⟩
abbrev main_call7_v0 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_7 : Ref sig .tc := ⟨.hbm, 72, rfl⟩
abbrev main_call8_v0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_8 : Ref sig .tc := ⟨.hbm, 83, rfl⟩
abbrev main_call9_v0 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S640x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S55x1600 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S320x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S55x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4096x28x28x1 : Shape := ⟨4, ![4096, 28, 28, 1]⟩
abbrev S3x3x1x32 : Shape := ⟨4, ![3, 3, 1, 32]⟩
abbrev S32 : Shape := ⟨1, ![32]⟩
abbrev S3x3x32x64 : Shape := ⟨4, ![3, 3, 32, 64]⟩
abbrev S64 : Shape := ⟨1, ![64]⟩
abbrev S1600x5 : Shape := ⟨2, ![1600, 5]⟩
abbrev S5 : Shape := ⟨1, ![5]⟩
abbrev S5x1600x10 : Shape := ⟨3, ![5, 1600, 10]⟩
abbrev S5x10 : Shape := ⟨2, ![5, 10]⟩
abbrev S4096x26x26x1 : Shape := ⟨4, ![4096, 26, 26, 1]⟩
abbrev S1x1x1x32 : Shape := ⟨4, ![1, 1, 1, 32]⟩
abbrev S1x32 : Shape := ⟨2, ![1, 32]⟩
abbrev S4096x26x26x32 : Shape := ⟨4, ![4096, 26, 26, 32]⟩
abbrev S_ : Shape := ⟨0, ![]⟩
abbrev S4096x13x13x32 : Shape := ⟨4, ![4096, 13, 13, 32]⟩
abbrev S4096x11x11x32 : Shape := ⟨4, ![4096, 11, 11, 32]⟩
abbrev S1x1x32x64 : Shape := ⟨4, ![1, 1, 32, 64]⟩
abbrev S32x64 : Shape := ⟨2, ![32, 64]⟩
abbrev S4096x11x11x64 : Shape := ⟨4, ![4096, 11, 11, 64]⟩
abbrev S1x1x1x64 : Shape := ⟨4, ![1, 1, 1, 64]⟩
abbrev S4096x5x5x64 : Shape := ⟨4, ![4096, 5, 5, 64]⟩
abbrev S4096x1600 : Shape := ⟨2, ![4096, 1600]⟩
abbrev S4096x5 : Shape := ⟨2, ![4096, 5]⟩
abbrev S1x5 : Shape := ⟨2, ![1, 5]⟩
abbrev S4096 : Shape := ⟨1, ![4096]⟩
abbrev S4096x1 : Shape := ⟨2, ![4096, 1]⟩
abbrev S4096x5x10 : Shape := ⟨3, ![4096, 5, 10]⟩
abbrev S1x5x10 : Shape := ⟨3, ![1, 5, 10]⟩
abbrev S4096x3 : Shape := ⟨2, ![4096, 3]⟩
abbrev S4096x3x1 : Shape := ⟨3, ![4096, 3, 1]⟩
abbrev S1 : Shape := ⟨1, ![1]⟩
abbrev S1x1x1 : Shape := ⟨3, ![1, 1, 1]⟩
abbrev S4096x3x10 : Shape := ⟨3, ![4096, 3, 10]⟩
abbrev S4096x10 : Shape := ⟨2, ![4096, 10]⟩

abbrev nBuf : Space → Nat
  | .hbm => 182
  | .vmem => 0
  | .smem => 0
  | _ => 0

abbrev hbmTy0_0 (i : Nat) : BufTy := match i % 128 with
  | 0 => ⟨S4096x28x28x1, .f32⟩
  | 1 => ⟨S3x3x1x32, .f32⟩
  | 2 => ⟨S32, .f32⟩
  | 3 => ⟨S3x3x32x64, .f32⟩
  | 4 => ⟨S64, .f32⟩
  | 5 => ⟨S1600x5, .f32⟩
  | 6 => ⟨S5, .f32⟩
  | 7 => ⟨S5x1600x10, .f32⟩
  | 8 => ⟨S5x10, .f32⟩
  | 9 => ⟨S4096x26x26x1, .f32⟩
  | 10 => ⟨S1x1x1x32, .f32⟩
  | 11 => ⟨S1x32, .f32⟩
  | 12 => ⟨S4096x26x26x32, .f32⟩
  | 13 => ⟨S4096x26x26x1, .f32⟩
  | 14 => ⟨S1x1x1x32, .f32⟩
  | 15 => ⟨S1x32, .f32⟩
  | 16 => ⟨S4096x26x26x32, .f32⟩
  | 17 => ⟨S4096x26x26x1, .f32⟩
  | 18 => ⟨S1x1x1x32, .f32⟩
  | 19 => ⟨S1x32, .f32⟩
  | 20 => ⟨S4096x26x26x32, .f32⟩
  | 21 => ⟨S4096x26x26x1, .f32⟩
  | 22 => ⟨S1x1x1x32, .f32⟩
  | 23 => ⟨S1x32, .f32⟩
  | 24 => ⟨S4096x26x26x32, .f32⟩
  | 25 => ⟨S4096x26x26x1, .f32⟩
  | 26 => ⟨S1x1x1x32, .f32⟩
  | 27 => ⟨S1x32, .f32⟩
  | 28 => ⟨S4096x26x26x32, .f32⟩
  | 29 => ⟨S4096x26x26x1, .f32⟩
  | 30 => ⟨S1x1x1x32, .f32⟩
  | 31 => ⟨S1x32, .f32⟩
  | 32 => ⟨S4096x26x26x32, .f32⟩
  | 33 => ⟨S4096x26x26x1, .f32⟩
  | 34 => ⟨S1x1x1x32, .f32⟩
  | 35 => ⟨S1x32, .f32⟩
  | 36 => ⟨S4096x26x26x32, .f32⟩
  | 37 => ⟨S4096x26x26x1, .f32⟩
  | 38 => ⟨S1x1x1x32, .f32⟩
  | 39 => ⟨S1x32, .f32⟩
  | 40 => ⟨S4096x26x26x32, .f32⟩
  | 41 => ⟨S4096x26x26x1, .f32⟩
  | 42 => ⟨S1x1x1x32, .f32⟩
  | 43 => ⟨S1x32, .f32⟩
  | 44 => ⟨S4096x26x26x32, .f32⟩
  | 45 => ⟨S4096x26x26x32, .f32⟩
  | 46 => ⟨S4096x26x26x32, .f32⟩
  | 47 => ⟨S4096x26x26x32, .f32⟩
  | 48 => ⟨S4096x26x26x32, .f32⟩
  | 49 => ⟨S4096x26x26x32, .f32⟩
  | 50 => ⟨S4096x26x26x32, .f32⟩
  | 51 => ⟨S4096x26x26x32, .f32⟩
  | 52 => ⟨S4096x26x26x32, .f32⟩
  | 53 => ⟨S1x1x1x32, .f32⟩
  | 54 => ⟨S4096x26x26x32, .f32⟩
  | 55 => ⟨S4096x26x26x32, .f32⟩
  | 56 => ⟨S_, .f32⟩
  | 57 => ⟨S4096x26x26x32, .f32⟩
  | 58 => ⟨S4096x26x26x32, .f32⟩
  | 59 => ⟨S_, .f32⟩
  | 60 => ⟨S_, .f32⟩
  | 61 => ⟨S4096x13x13x32, .f32⟩
  | 62 => ⟨S4096x11x11x32, .f32⟩
  | 63 => ⟨S1x1x32x64, .f32⟩
  | 64 => ⟨S32x64, .f32⟩
  | 65 => ⟨S4096x11x11x64, .f32⟩
  | 66 => ⟨S4096x11x11x32, .f32⟩
  | 67 => ⟨S1x1x32x64, .f32⟩
  | 68 => ⟨S32x64, .f32⟩
  | 69 => ⟨S4096x11x11x64, .f32⟩
  | 70 => ⟨S4096x11x11x32, .f32⟩
  | 71 => ⟨S1x1x32x64, .f32⟩
  | 72 => ⟨S32x64, .f32⟩
  | 73 => ⟨S4096x11x11x64, .f32⟩
  | 74 => ⟨S4096x11x11x32, .f32⟩
  | 75 => ⟨S1x1x32x64, .f32⟩
  | 76 => ⟨S32x64, .f32⟩
  | 77 => ⟨S4096x11x11x64, .f32⟩
  | 78 => ⟨S4096x11x11x32, .f32⟩
  | 79 => ⟨S1x1x32x64, .f32⟩
  | 80 => ⟨S32x64, .f32⟩
  | 81 => ⟨S4096x11x11x64, .f32⟩
  | 82 => ⟨S4096x11x11x32, .f32⟩
  | 83 => ⟨S1x1x32x64, .f32⟩
  | 84 => ⟨S32x64, .f32⟩
  | 85 => ⟨S4096x11x11x64, .f32⟩
  | 86 => ⟨S4096x11x11x32, .f32⟩
  | 87 => ⟨S1x1x32x64, .f32⟩
  | 88 => ⟨S32x64, .f32⟩
  | 89 => ⟨S4096x11x11x64, .f32⟩
  | 90 => ⟨S4096x11x11x32, .f32⟩
  | 91 => ⟨S1x1x32x64, .f32⟩
  | 92 => ⟨S32x64, .f32⟩
  | 93 => ⟨S4096x11x11x64, .f32⟩
  | 94 => ⟨S4096x11x11x32, .f32⟩
  | 95 => ⟨S1x1x32x64, .f32⟩
  | 96 => ⟨S32x64, .f32⟩
  | 97 => ⟨S4096x11x11x64, .f32⟩
  | 98 => ⟨S4096x11x11x64, .f32⟩
  | 99 => ⟨S4096x11x11x64, .f32⟩
  | 100 => ⟨S4096x11x11x64, .f32⟩
  | 101 => ⟨S4096x11x11x64, .f32⟩
  | 102 => ⟨S4096x11x11x64, .f32⟩
  | 103 => ⟨S4096x11x11x64, .f32⟩
  | 104 => ⟨S4096x11x11x64, .f32⟩
  | 105 => ⟨S4096x11x11x64, .f32⟩
  | 106 => ⟨S1x1x1x64, .f32⟩
  | 107 => ⟨S4096x11x11x64, .f32⟩
  | 108 => ⟨S4096x11x11x64, .f32⟩
  | 109 => ⟨S_, .f32⟩
  | 110 => ⟨S4096x11x11x64, .f32⟩
  | 111 => ⟨S4096x11x11x64, .f32⟩
  | 112 => ⟨S_, .f32⟩
  | 113 => ⟨S_, .f32⟩
  | 114 => ⟨S4096x5x5x64, .f32⟩
  | 115 => ⟨S4096x1600, .f32⟩
  | 116 => ⟨S4096x5, .f32⟩
  | 117 => ⟨S1x5, .f32⟩
  | 118 => ⟨S4096x5, .f32⟩
  | 119 => ⟨S4096x5, .f32⟩
  | 120 => ⟨S_, .f32⟩
  | 121 => ⟨S4096, .f32⟩
  | 122 => ⟨S_, .f32⟩
  | 123 => ⟨S4096, .f32⟩
  | 124 => ⟨S4096, .f32⟩
  | 125 => ⟨S4096x1, .f32⟩
  | 126 => ⟨S4096x5, .f32⟩
  | 127 => ⟨S4096x5, .f32⟩
  | _ => ⟨S4096x28x28x1, .f32⟩

abbrev hbmTy0_1 (i : Nat) : BufTy := match i % 128 with
  | 0 => ⟨S4096x5, .f32⟩
  | 1 => ⟨S_, .f32⟩
  | 2 => ⟨S4096, .f32⟩
  | 3 => ⟨S4096x1, .f32⟩
  | 4 => ⟨S4096x5, .f32⟩
  | 5 => ⟨S4096x5, .f32⟩
  | 6 => ⟨S4096x5x10, .f32⟩
  | 7 => ⟨S1x5x10, .f32⟩
  | 8 => ⟨S4096x5x10, .f32⟩
  | 9 => ⟨S4096x5x10, .f32⟩
  | 10 => ⟨S4096x3, .f32⟩
  | 11 => ⟨S4096x3, .i32⟩
  | 12 => ⟨S4096x3x1, .i32⟩
  | 13 => ⟨S_, .i32⟩
  | 14 => ⟨S4096x3x1, .i32⟩
  | 15 => ⟨S4096x3x1, .i1⟩
  | 16 => ⟨S_, .i32⟩
  | 17 => ⟨S4096x3x1, .i32⟩
  | 18 => ⟨S4096x3x1, .i32⟩
  | 19 => ⟨S4096x3x1, .i32⟩
  | 20 => ⟨S1, .i32⟩
  | 21 => ⟨S_, .i32⟩
  | 22 => ⟨S4096x3x1, .i32⟩
  | 23 => ⟨S4096x3x1, .i1⟩
  | 24 => ⟨S1x1x1, .i32⟩
  | 25 => ⟨S4096x3x1, .i32⟩
  | 26 => ⟨S4096x3x1, .i1⟩
  | 27 => ⟨S4096x3x1, .i1⟩
  | 28 => ⟨S_, .i1⟩
  | 29 => ⟨S4096x3, .i1⟩
  | 30 => ⟨S4096x3x10, .f32⟩
  | 31 => ⟨S4096x3x10, .i1⟩
  | 32 => ⟨S_, .f32⟩
  | 33 => ⟨S4096x3x10, .f32⟩
  | 34 => ⟨S4096x3x10, .f32⟩
  | 35 => ⟨S4096x3x1, .f32⟩
  | 36 => ⟨S4096x3x10, .f32⟩
  | 37 => ⟨S4096x3x10, .f32⟩
  | 38 => ⟨S_, .f32⟩
  | 39 => ⟨S4096x10, .f32⟩
  | 40 => ⟨S_, .f32⟩
  | 41 => ⟨S4096, .f32⟩
  | 42 => ⟨S_, .f32⟩
  | 43 => ⟨S4096, .f32⟩
  | 44 => ⟨S4096, .f32⟩
  | 45 => ⟨S4096x1, .f32⟩
  | 46 => ⟨S4096x10, .f32⟩
  | 47 => ⟨S4096x10, .f32⟩
  | 48 => ⟨S4096x10, .f32⟩
  | 49 => ⟨S_, .f32⟩
  | 50 => ⟨S4096, .f32⟩
  | 51 => ⟨S4096x1, .f32⟩
  | 52 => ⟨S4096x10, .f32⟩
  | 53 => ⟨S4096x10, .f32⟩
  | _ => ⟨S4096x28x28x1, .f32⟩

abbrev hbmTy (i : Nat) : BufTy := match i / 128 with
  | 0 => hbmTy0_0 i
  | 1 => hbmTy0_1 i
  | _ => ⟨S4096x28x28x1, .f32⟩

abbrev bufTy : (tb : Table) → Fin (tcTables nBuf tb) → BufTy
  | .hbm, ⟨i, _⟩ => hbmTy i
  | _, _ => ⟨S4096x28x28x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_call0_cst : Ref sig .tc := ⟨.hbm, 56, rfl⟩
abbrev main_call0_v0 : Ref sig .tc := ⟨.hbm, 57, rfl⟩
abbrev main_v47 : Ref sig .tc := ⟨.hbm, 58, rfl⟩
abbrev main_cst : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_call1_cst : Ref sig .tc := ⟨.hbm, 109, rfl⟩
abbrev main_call1_v0 : Ref sig .tc := ⟨.hbm, 110, rfl⟩
abbrev main_v97 : Ref sig .tc := ⟨.hbm, 111, rfl⟩
abbrev main_cst_0 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_cst_1 : Ref sig .tc := ⟨.hbm, 120, rfl⟩
abbrev main_v105 : Ref sig .tc := ⟨.hbm, 121, rfl⟩
abbrev main_cst_2 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_cst_3 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_values : Ref sig .tc := ⟨.hbm, 138, rfl⟩
abbrev main_indices : Ref sig .tc := ⟨.hbm, 139, rfl⟩
abbrev main_v120 : Ref sig .tc := ⟨.hbm, 140, rfl⟩
abbrev main_call2_c : Ref sig .tc := ⟨.hbm, 141, rfl⟩
abbrev main_call2_v0 : Ref sig .tc := ⟨.hbm, 142, rfl⟩
abbrev main_call2_v1 : Ref sig .tc := ⟨.hbm, 143, rfl⟩
abbrev main_call2_c_0 : Ref sig .tc := ⟨.hbm, 144, rfl⟩
abbrev main_call2_v2 : Ref sig .tc := ⟨.hbm, 145, rfl⟩
abbrev main_call2_v3 : Ref sig .tc := ⟨.hbm, 146, rfl⟩
abbrev main_call2_v4 : Ref sig .tc := ⟨.hbm, 147, rfl⟩
abbrev main_call2_c_1 : Ref sig .tc := ⟨.hbm, 148, rfl⟩
abbrev main_call2_c_2 : Ref sig .tc := ⟨.hbm, 149, rfl⟩
abbrev main_call2_v5 : Ref sig .tc := ⟨.hbm, 150, rfl⟩
abbrev main_call2_v6 : Ref sig .tc := ⟨.hbm, 151, rfl⟩
abbrev main_call2_v7 : Ref sig .tc := ⟨.hbm, 152, rfl⟩
abbrev main_call2_v8 : Ref sig .tc := ⟨.hbm, 153, rfl⟩
abbrev main_call2_v9 : Ref sig .tc := ⟨.hbm, 154, rfl⟩
abbrev main_call2_v10 : Ref sig .tc := ⟨.hbm, 155, rfl⟩
abbrev main_call2_c_3 : Ref sig .tc := ⟨.hbm, 156, rfl⟩
abbrev main_call2_v11 : Ref sig .tc := ⟨.hbm, 157, rfl⟩
abbrev main_call2_v12 : Ref sig .tc := ⟨.hbm, 158, rfl⟩
abbrev main_call2_v13 : Ref sig .tc := ⟨.hbm, 159, rfl⟩
abbrev main_call2_cst : Ref sig .tc := ⟨.hbm, 160, rfl⟩
abbrev main_call2_v14 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_cst_4 : Ref sig .tc := ⟨.hbm, 166, rfl⟩
abbrev main_v125 : Ref sig .tc := ⟨.hbm, 167, rfl⟩
abbrev main_cst_5 : Ref sig .tc := ⟨.hbm, 168, rfl⟩
abbrev main_v126 : Ref sig .tc := ⟨.hbm, 169, rfl⟩
abbrev main_cst_6 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_7 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩

abbrev nD : Nat := 1
abbrev τ : Topo := Topo.v7x

variable {F : FTy → Type} [FloatOps F]
-- ==== Proof.Spec.lean ====
/- The mathematics of the network for one sample, with natural numbers for indices: two rounds of a 3×3 convolution
   followed by bias, rectification and a 2×2 maximum; a gate and five experts, each an affine map of the flattened
   features; the three largest gate weights mixing the experts; a softmax. Nothing here mentions a program. -/
module

public import Idealize.ShloMosaic.PureOps.Ideal
public import Mathlib.Algebra.BigOperators.Fin

@[expose] public section

noncomputable section

namespace Cert.Proof.Spec

open Finset Idealize.ShloMosaic

/-- The first convolution: one input channel, window 3×3, no padding. -/
def conv1 (x : ℕ → ℕ → EReal) (w : ℕ → ℕ → ℕ → EReal) (i j c : ℕ) : EReal :=
  ∑ p ∈ range 3, ∑ q ∈ range 3, x (i + p) (j + q) * w p q c

/-- The second convolution: 32 input channels, window 3×3, no padding. -/
def conv2 (h : ℕ → ℕ → ℕ → EReal) (w : ℕ → ℕ → ℕ → ℕ → EReal) (i j c : ℕ) : EReal :=
  ∑ p ∈ range 3, ∑ q ∈ range 3, ∑ d ∈ range 32, h (i + p) (j + q) d * w p q d c

/-- The maximum over a 2×2 window at stride two, then the bias and the rectification. -/
def pool (y : ℕ → ℕ → ℕ → EReal) (b : ℕ → EReal) (i j c : ℕ) : EReal :=
  max (max (max (y (2 * i) (2 * j) c) (y (2 * i + 1) (2 * j) c))
    (max (y (2 * i) (2 * j + 1) c) (y (2 * i + 1) (2 * j + 1) c)) + b c) 0

/-- The features of one sample: both convolution rounds. -/
def feat (x : ℕ → ℕ → EReal) (w1 : ℕ → ℕ → ℕ → EReal) (b1 : ℕ → EReal) (w2 : ℕ → ℕ → ℕ → ℕ → EReal) (b2 : ℕ → EReal)
    (i j c : ℕ) : EReal :=
  pool (conv2 (pool (conv1 x w1) b1) w2) b2 i j c

/-- An affine map of the 1600 features, laid out row by row, then column by column, then by channel. -/
def affine (h : ℕ → ℕ → ℕ → EReal) (w : ℕ → EReal) (b : EReal) : EReal :=
  ∑ f ∈ range 1600, w f * h (f / 320) (f / 64 % 5) (f % 64) + b

/-- The largest of finitely many extended reals. -/
def top {n : ℕ} (v : Fin n → EReal) : EReal := univ.fold max ⊥ v

/-- The softmax of finitely many extended reals, the largest subtracted first. -/
def softmax {n : ℕ} (v : Fin n → EReal) (e : Fin n) : EReal :=
  Ideal.div (Ideal.exp (v e - top v)) (∑ k : Fin n, Ideal.exp (v k - top v))

/-- How many of the weights come before weight `e` in decreasing order, ties in the order of their numbers. -/
def rank {n : ℕ} (g : Fin n → EReal) (e : Fin n) : ℕ :=
  (univ.filter fun j => g e < g j ∨ (g j = g e ∧ j < e)).card

/-- The weight of expert `e` if it is among the three largest, and zero otherwise. -/
def weight {n : ℕ} (g : Fin n → EReal) (e : Fin n) : EReal := if rank g e < 3 then g e else 0

/-- The mixture of the experts' outputs by the three largest weights. -/
def mix {n k : ℕ} (g : Fin n → EReal) (eo : Fin n → Fin k → EReal) (h : Fin k) : EReal :=
  ∑ e : Fin n, weight g e * eo e h

/-- The network's output from the logits: 50 expert outputs (expert `e`, class `h` at `10 e + h`), then 5 gate logits. -/
def head (s : ℕ → EReal) (h : Fin 10) : EReal :=
  softmax (mix (softmax fun e : Fin 5 => s (50 + e.val)) fun e k => s (10 * e.val + k.val)) h

/-- The network's output for one sample from its image and the parameters, the experts' and the gate's affine maps
    stacked as in `head`. -/
def out (x : ℕ → ℕ → EReal) (w1 : ℕ → ℕ → ℕ → EReal) (b1 : ℕ → EReal) (w2 : ℕ → ℕ → ℕ → ℕ → EReal) (b2 : ℕ → EReal)
    (wh : ℕ → ℕ → EReal) (bh : ℕ → EReal) (h : Fin 10) : EReal :=
  head (fun r => affine (feat x w1 b1 w2 b2) (wh r) (bh r)) h

end Cert.Proof.Spec
-- ==== Proof.Sums.lean ====
/- Finite sums over the extended reals: a sum over a range split in equal pieces, and a sum against a band of width
   three. -/
module

public import Idealize.ShloMosaic.PureOps.Ideal
public import Mathlib.Algebra.BigOperators.Fin
public import Mathlib.Algebra.BigOperators.Intervals

@[expose] public section

noncomputable section

namespace Cert.Proof.Sums

open Finset

/-- A sum over `m * n` indices is the sum of the `m` sums over `n` consecutive ones. -/
theorem sum_split (m n : ℕ) (f : ℕ → EReal) :
    ∑ q ∈ range (m * n), f q = ∑ a ∈ range m, ∑ b ∈ range n, f (n * a + b) := by
  induction m with
  | zero => simp
  | succ m ih =>
    rw [Nat.succ_mul, Finset.sum_range_add, ih, Finset.sum_range_succ, Nat.mul_comm n m]

/-- Summing a band of width three at offset `j` over a range which holds it. -/
theorem sum_band (n j : ℕ) (h : j + 3 ≤ n) (f : ℕ → EReal) :
    ∑ w ∈ range n, (if j ≤ w ∧ w < j + 3 then f w else 0) = ∑ d ∈ range 3, f (j + d) := by
  rw [← Finset.sum_filter]
  have hs : (range n).filter (fun w => j ≤ w ∧ w < j + 3) = Finset.Ico j (j + 3) := by
    ext w; simp only [Finset.mem_filter, Finset.mem_range, Finset.mem_Ico]; omega
  rw [hs, Finset.sum_Ico_eq_sum_range]
  simp

/-- A sum over `Fin n` whose terms are a function of the index's value is the sum over the range. -/
theorem sum_fin (n : ℕ) (f : ℕ → EReal) : ∑ k : Fin n, f k.val = ∑ k ∈ range n, f k :=
  Fin.sum_univ_eq_sum_range f n

end Cert.Proof.Sums
-- ==== Proof.Cats.lean ====
/- Equal pieces set side by side along one axis, read at an index; the pattern of negative infinity; a maximum folded over
   two positions. -/
module

public import Idealize.ShloMosaic.Lib.Pointwise
public import Idealize.ShloMosaic.Lib.Pipeline.Value

@[expose] public section

noncomputable section

namespace Cert.Proof

open Idealize.ShloMosaic

/-- The pattern of negative infinity denotes the least extended real. -/
theorem ofBits_bot : Ideal.ofBits FTy.f32 0xFF800000#32 = ⊥ := by
  simp [Ideal.ofBits, Ideal.ieee]

/-- The maximum over two positions, folded from the least element. -/
theorem fold_two (f : Fin 2 → EReal) : Finset.univ.fold max ⊥ f = max (f 0) (f 1) := by
  rw [show (Finset.univ : Finset (Fin 2)) = {0, 1} from rfl, Finset.fold_insert (by decide), Finset.fold_singleton]
  simp

/-- Equal matrices side by side, read at row `r` and column `q`. -/
theorem catCols {α : Type} {R N W M : ℕ} (hW : 0 < W) (f : Fin N → ((⟨2, ![R, W]⟩ : Shape).Idx → α))
    (h : Shape.Concatenates ((List.ofFn fun n : Fin N => (⟨⟨2, ![R, W]⟩, f n⟩ : (s : Shape) × (s.Idx → α))).map (·.1)) ⟨2, ![R, M]⟩ 1)
    (r : Fin R) (q : Fin M) (n : Fin N) (hn : q.val / W = n.val) :
    concatenate ⟨2, ![R, M]⟩ 1 (List.ofFn fun n : Fin N => (⟨⟨2, ![R, W]⟩, f n⟩ : (s : Shape) × (s.Idx → α))) h (ix2 r q)
      = f n (ix2 r ⟨q.val % W, Nat.mod_lt _ hW⟩) :=
  concatenate_ofFn_apply (t := ⟨2, ![R, M]⟩) (s₁ := ⟨2, ![R, W]⟩) 1 f h rfl W rfl (ix2 r q) n hn _ rfl
    (fun b => by match b with | ⟨0, _⟩ => exact fun _ => rfl | ⟨1, _⟩ => exact fun hb => absurd rfl hb)

/-- Equal matrices stacked by rows, read at row `q` and column `l`. -/
theorem catRows {α : Type} {R N W M : ℕ} (hR : 0 < R) (f : Fin N → ((⟨2, ![R, W]⟩ : Shape).Idx → α))
    (h : Shape.Concatenates ((List.ofFn fun n : Fin N => (⟨⟨2, ![R, W]⟩, f n⟩ : (s : Shape) × (s.Idx → α))).map (·.1)) ⟨2, ![M, W]⟩ 0)
    (q : Fin M) (l : Fin W) (n : Fin N) (hn : q.val / R = n.val) :
    concatenate ⟨2, ![M, W]⟩ 0 (List.ofFn fun n : Fin N => (⟨⟨2, ![R, W]⟩, f n⟩ : (s : Shape) × (s.Idx → α))) h (ix2 q l)
      = f n (ix2 ⟨q.val % R, Nat.mod_lt _ hR⟩ l) :=
  concatenate_ofFn_apply (t := ⟨2, ![M, W]⟩) (s₁ := ⟨2, ![R, W]⟩) 0 f h rfl R rfl (ix2 q l) n hn _ rfl
    (fun b => by match b with | ⟨1, _⟩ => exact fun _ => rfl | ⟨0, _⟩ => exact fun hb => absurd rfl hb)

/-- Matrices stacked along a new leading axis, read at an index. -/
theorem catLead {α : Type} {R N W : ℕ} (f : Fin N → ((⟨3, ![1, R, W]⟩ : Shape).Idx → α))
    (h : Shape.Concatenates ((List.ofFn fun n : Fin N => (⟨⟨3, ![1, R, W]⟩, f n⟩ : (s : Shape) × (s.Idx → α))).map (·.1)) ⟨3, ![N, R, W]⟩ 0)
    (n : Fin N) (r : Fin R) (l : Fin W) :
    concatenate ⟨3, ![N, R, W]⟩ 0 (List.ofFn fun n : Fin N => (⟨⟨3, ![1, R, W]⟩, f n⟩ : (s : Shape) × (s.Idx → α))) h (ix3 n r l)
      = f n (ix3 0 r l) :=
  concatenate_ofFn_apply (t := ⟨3, ![N, R, W]⟩) (s₁ := ⟨3, ![1, R, W]⟩) 0 f h rfl 1 rfl (ix3 n r l) n (Nat.div_one _) _
    (by show 0 = n.val % 1; omega)
    (fun b => by match b with | ⟨1, _⟩ => exact fun _ => rfl | ⟨2, _⟩ => exact fun _ => rfl | ⟨0, _⟩ => exact fun hb => absurd rfl hb)

end Cert.Proof
-- ==== Proof.Layer1.lean ====
/- What one block computes in its first convolution round: the product of the band matrix with the stacked image rows,
   and a pooled row of it. -/
module

public import proofs.«01_k».proof.Proof.Gen.KernelIdeal.Skeleton
public import proofs.«01_k».proof.Proof.Spec
public import proofs.«01_k».proof.Proof.Sums
public import proofs.«01_k».proof.Proof.Cats

@[expose] public section

noncomputable section

namespace Cert.Proof

open Idealize.ShloMosaic Cert.KernelIdeal Cert.KernelIdeal.Gen

/-- The transposed image block. -/
def xT (x : FVec Ideal S512x896 .f32) : FVec Ideal S896x512 .bf16 :=
  truncf .bf16 (transpose S896x512 [1, 0] (shapeCast S512x896 x shapeCasts_S512x896_S512x896) transposes_S512x896_p1_0_S896x512) bitsLt_bf16_f32

/-- Rows and columns are exchanged. -/
theorem xT_apply (x : FVec Ideal S512x896 .f32) (q : Fin 896) (l : Fin 512) : xT x (ix2 q l) = x (ix2 l q) := by
  pointwise [xT]

/-- Twelve slabs of three image rows each, the first starting at image row `base`. -/
def slabs1 (xt : FVec Ideal S896x512 .bf16) (base : ℕ) (h : ∀ n : Fin 12, S896x512.Slices ![32 * (base + n.val), 0] S96x512) :
    FVec Ideal S96x6144 .bf16 :=
  concatenate S96x6144 1 (List.ofFn fun n : Fin 12 => ⟨S96x512, extractStridedSlice S96x512 ![32 * (base + n.val), 0] xt (h n)⟩)
    concatenates_S96x512_S96x512_S96x512_S96x512_S96x512_S96x512_S96x512_S96x512_S96x512_S96x512_S96x512_S96x512_S96x6144_d1

/-- Column block `n` of the slabs holds the three image rows from `base + n`. -/
theorem slabs1_apply (xt : FVec Ideal S896x512 .bf16) (base : ℕ) (hb : base ≤ 13)
    (h : ∀ n : Fin 12, S896x512.Slices ![32 * (base + n.val), 0] S96x512) (q : Fin 96) (r : Fin 6144) :
    slabs1 xt base h (ix2 q r) = xt (ix2 ⟨32 * (base + r.val / 512) + q.val, by omega⟩ ⟨r.val % 512, by omega⟩) := by
  have hn : r.val / 512 < 12 := by omega
  refine (catCols (by norm_num) (fun n : Fin 12 => extractStridedSlice S96x512 ![32 * (base + n.val), 0] xt (h n)) _ q r
    ⟨r.val / 512, hn⟩ rfl).trans ?_
  pointwise

/-- The band matrix times the slabs: the first convolution of twelve output rows. -/
def prod1 (t : FVec Ideal S768x96 .bf16) (xt : FVec Ideal S896x512 .bf16) (base : ℕ)
    (h : ∀ n : Fin 12, S896x512.Slices ![32 * (base + n.val), 0] S96x512) : FVec Ideal S768x6144 .f32 :=
  matmul dot_S768x96_S96x6144_S768x6144_1_0_0_1_n_n none (shapeCast S768x96 t shapeCasts_S768x96_S768x96)
    (slabs1 xt base h) (constant S768x6144 .f32 0x00000000#32)

/-- The product, as a sum. -/
theorem prod1_apply (t : FVec Ideal S768x96 .bf16) (xt : FVec Ideal S896x512 .bf16) (base : ℕ)
    (h : ∀ n : Fin 12, S896x512.Slices ![32 * (base + n.val), 0] S96x512) (r : Fin 768) (q : Fin 6144) :
    prod1 t xt base h (ix2 r q) = ∑ k : Fin 96, t (ix2 r k) * slabs1 xt base h (ix2 k q) := by
  pointwise [prod1]

/-- The first convolution, read off the product. -/
theorem prod1_eq (X : ℕ → ℕ → ℕ → EReal) (w : ℕ → ℕ → ℕ → EReal) (t : FVec Ideal S768x96 .bf16) (xt : FVec Ideal S896x512 .bf16)
    (ht : ∀ (r : Fin 768) (k : Fin 96), t (ix2 r k)
      = if r.val / 32 ≤ k.val % 32 ∧ k.val % 32 < r.val / 32 + 3 then w (k.val / 32) (k.val % 32 - r.val / 32) (r.val % 32) else 0)
    (hx : ∀ (q : Fin 896) (l : Fin 512), xt (ix2 q l) = X l.val (q.val / 32) (q.val % 32))
    (base : ℕ) (hb : base ≤ 13) (h : ∀ n : Fin 12, S896x512.Slices ![32 * (base + n.val), 0] S96x512) (r : Fin 768) (q : Fin 6144) :
    prod1 t xt base h (ix2 r q) = Spec.conv1 (X (q.val % 512)) w (base + q.val / 512) (r.val / 32) (r.val % 32) := by
  rw [prod1_apply]
  simp only [slabs1_apply xt base hb h, ht, hx]
  rw [Sums.sum_fin 96 (fun k => (if r.val / 32 ≤ k % 32 ∧ k % 32 < r.val / 32 + 3 then w (k / 32) (k % 32 - r.val / 32) (r.val % 32) else 0)
    * X (q.val % 512) ((32 * (base + q.val / 512) + k) / 32) ((32 * (base + q.val / 512) + k) % 32))]
  rw [show (96 : ℕ) = 3 * 32 from rfl, Sums.sum_split]
  unfold Spec.conv1
  refine Finset.sum_congr rfl fun p _ => ?_
  have hband := Sums.sum_band 32 (r.val / 32) (by omega)
    (fun v => X (q.val % 512) (base + q.val / 512 + p) v * w p (v - r.val / 32) (r.val % 32))
  simp only [Nat.add_sub_cancel_left] at hband
  rw [← hband]
  refine Finset.sum_congr rfl fun v hv => ?_
  have hv := Finset.mem_range.mp hv
  have e1 : (32 * p + v) % 32 = v := by omega
  have e2 : (32 * p + v) / 32 = p := by omega
  have e3 : (32 * (base + q.val / 512) + (32 * p + v)) / 32 = base + q.val / 512 + p := by omega
  have e4 : (32 * (base + q.val / 512) + (32 * p + v)) % 32 = v := by omega
  rw [e1, e2, e3, e4, ite_mul, zero_mul, mul_comm]

/-- One pooled row of the first round: the larger of two convolution rows, the larger of two neighbouring columns, the
    bias, the rectification. -/
def pool1 (y : FVec Ideal S768x6144 .f32) (b : FVec Ideal S384x512 .f32) (o0 o1 : ℕ)
    (h0 : S768x6144.Slices ![0, o0] S768x512) (h1 : S768x6144.Slices ![0, o1] S768x512) : FVec Ideal S384x512 .bf16 :=
  truncf .bf16 (maximumf
    (addf (shapeCast S384x512 (multiReduction (F := Ideal) (φ := .f32) .maximumf [1] S12x32x512
        (shapeCast S12x2x32x512 (maximumf (F := Ideal) (φ := .f32) (extractStridedSlice S768x512 ![0, o0] y h0) (extractStridedSlice S768x512 ![0, o1] y h1))
          shapeCasts_S768x512_S12x2x32x512) 0xFF800000#32 reduces_S12x2x32x512_S12x32x512 (.inl rfl) rfl)
        shapeCasts_S12x32x512_S384x512) (shapeCast S384x512 b shapeCasts_S384x512_S384x512))
    (broadcast S384x512 (Scalar.ofBits .f32 0x00000000#32))) bitsLt_bf16_f32

/-- The maximum of the four entries of the window, then the bias and the rectification. -/
theorem pool1_apply (y : FVec Ideal S768x6144 .f32) (b : FVec Ideal S384x512 .f32) (o0 o1 : ℕ)
    (h0 : S768x6144.Slices ![0, o0] S768x512) (h1 : S768x6144.Slices ![0, o1] S768x512) (r : Fin 384) (l : Fin 512)
    (ho0 : o0 ≤ 5632) (ho1 : o1 ≤ 5632) :
    pool1 y b o0 o1 h0 h1 (ix2 r l) = max (max
      (max (y (ix2 ⟨r.val / 32 * 64 + r.val % 32, by omega⟩ ⟨o0 + l.val, by omega⟩)) (y (ix2 ⟨r.val / 32 * 64 + r.val % 32, by omega⟩ ⟨o1 + l.val, by omega⟩)))
      (max (y (ix2 ⟨r.val / 32 * 64 + 32 + r.val % 32, by omega⟩ ⟨o0 + l.val, by omega⟩)) (y (ix2 ⟨r.val / 32 * 64 + 32 + r.val % 32, by omega⟩ ⟨o1 + l.val, by omega⟩)))
      + b (ix2 r l)) 0 := by
  pointwise [pool1]
  simp only [ofBits_bot]
  simp only [fold_two]
  simp

/-- A pooled row of the first round, read off the convolution. -/
theorem pool1_eq (C : ℕ → ℕ → ℕ → ℕ → EReal) (b1 : ℕ → EReal) (y : FVec Ideal S768x6144 .f32) (b : FVec Ideal S384x512 .f32) (base : ℕ)
    (hy : ∀ (r : Fin 768) (q : Fin 6144), y (ix2 r q) = C (q.val % 512) (base + q.val / 512) (r.val / 32) (r.val % 32))
    (hb : ∀ (r : Fin 384) (l : Fin 512), b (ix2 r l) = b1 (r.val % 32))
    (k i : ℕ) (hk : k < 6) (hi : 2 * i = base + 2 * k)
    (h0 : S768x6144.Slices ![0, 1024 * k] S768x512) (h1 : S768x6144.Slices ![0, 1024 * k + 512] S768x512) (r : Fin 384) (l : Fin 512) :
    pool1 y b (1024 * k) (1024 * k + 512) h0 h1 (ix2 r l) = Spec.pool (C l.val) b1 i (r.val / 32) (r.val % 32) := by
  rw [pool1_apply _ _ _ _ _ _ _ _ (by omega) (by omega)]
  simp only [hy, hb, Spec.pool]
  have e1 : (1024 * k + l.val) % 512 = l.val := by omega
  have e2 : (1024 * k + 512 + l.val) % 512 = l.val := by omega
  have e3 : base + (1024 * k + l.val) / 512 = 2 * i := by omega
  have e4 : base + (1024 * k + 512 + l.val) / 512 = 2 * i + 1 := by omega
  have e5 : (r.val / 32 * 64 + r.val % 32) / 32 = 2 * (r.val / 32) := by omega
  have e6 : (r.val / 32 * 64 + 32 + r.val % 32) / 32 = 2 * (r.val / 32) + 1 := by omega
  have e7 : (r.val / 32 * 64 + r.val % 32) % 32 = r.val % 32 := by omega
  have e8 : (r.val / 32 * 64 + 32 + r.val % 32) % 32 = r.val % 32 := by omega
  rw [e1, e2, e3, e4, e5, e6, e7, e8]

end Cert.Proof
-- ==== Proof.Layer2.lean ====
/- What one block computes in its second convolution round, from the twelve pooled rows of the first, and its logits. -/
module

public import proofs.«01_k».proof.Proof.Gen.KernelIdeal.Skeleton
public import proofs.«01_k».proof.Proof.Spec
public import proofs.«01_k».proof.Proof.Sums
public import proofs.«01_k».proof.Proof.Cats

@[expose] public section

noncomputable section

namespace Cert.Proof

open Idealize.ShloMosaic Cert.KernelIdeal Cert.KernelIdeal.Gen

/-- The twelve pooled rows stacked along a leading axis. -/
def stack (P : Fin 12 → FVec Ideal S384x512 .bf16) : FVec Ideal S12x384x512 .bf16 :=
  concatenate S12x384x512 0 (List.ofFn fun n : Fin 12 => ⟨S1x384x512, shapeCast S1x384x512 (P n) shapeCasts_S384x512_S1x384x512⟩)
    concatenates_S1x384x512_S1x384x512_S1x384x512_S1x384x512_S1x384x512_S1x384x512_S1x384x512_S1x384x512_S1x384x512_S1x384x512_S1x384x512_S1x384x512_S12x384x512_d0

/-- Slice `n` of the stack is row `n`. -/
theorem stack_apply (P : Fin 12 → FVec Ideal S384x512 .bf16) (n : Fin 12) (r : Fin 384) (l : Fin 512) :
    stack P (ix3 n r l) = P n (ix2 r l) := by
  refine (catLead (fun n : Fin 12 => shapeCast S1x384x512 (P n) shapeCasts_S384x512_S1x384x512) _ n r l).trans ?_
  pointwise

/-- Three consecutive pooled rows lie inside the stack. -/
theorem slices3 (n : Fin 10) : S12x384x512.Slices ![n.val, 0, 0] S3x384x512 := by
  revert n; decide

/-- Ten slabs of three pooled rows each. -/
def slabs2 (s : FVec Ideal S12x384x512 .bf16) : FVec Ideal S1152x5120 .bf16 :=
  concatenate S1152x5120 1 (List.ofFn fun n : Fin 10 => ⟨S1152x512,
      shapeCast S1152x512 (extractStridedSlice S3x384x512 ![n.val, 0, 0] s (slices3 n)) shapeCasts_S3x384x512_S1152x512⟩)
    concatenates_S1152x512_S1152x512_S1152x512_S1152x512_S1152x512_S1152x512_S1152x512_S1152x512_S1152x512_S1152x512_S1152x5120_d1

/-- Column block `n` of the slabs holds the three pooled rows from `n`. -/
theorem slabs2_apply (s : FVec Ideal S12x384x512 .bf16) (k : Fin 1152) (q : Fin 5120) :
    slabs2 s (ix2 k q) = s (ix3 ⟨q.val / 512 + k.val / 384, by omega⟩ ⟨k.val % 384, by omega⟩ ⟨q.val % 512, by omega⟩) := by
  have hn : q.val / 512 < 10 := by omega
  refine (catCols (by norm_num) (fun n : Fin 10 =>
    shapeCast S1152x512 (extractStridedSlice S3x384x512 ![n.val, 0, 0] s (slices3 n)) shapeCasts_S3x384x512_S1152x512) _ k q
    ⟨q.val / 512, hn⟩ rfl).trans ?_
  pointwise

/-- The second band matrix times the slabs: the second convolution. -/
def prod2 (t : FVec Ideal S640x1152 .bf16) (s : FVec Ideal S12x384x512 .bf16) : FVec Ideal S640x5120 .f32 :=
  matmul dot_S640x1152_S1152x5120_S640x5120_1_0_0_1_n_n none (shapeCast S640x1152 t shapeCasts_S640x1152_S640x1152)
    (slabs2 s) (constant S640x5120 .f32 0x00000000#32)

/-- The product, as a sum. -/
theorem prod2_apply (t : FVec Ideal S640x1152 .bf16) (s : FVec Ideal S12x384x512 .bf16) (r : Fin 640) (q : Fin 5120) :
    prod2 t s (ix2 r q) = ∑ k : Fin 1152, t (ix2 r k) * slabs2 s (ix2 k q) := by
  pointwise [prod2]

/-- The second convolution, read off the product. -/
theorem prod2_eq (H : ℕ → ℕ → ℕ → ℕ → EReal) (w : ℕ → ℕ → ℕ → ℕ → EReal) (t : FVec Ideal S640x1152 .bf16) (P : Fin 12 → FVec Ideal S384x512 .bf16)
    (ht : ∀ (r : Fin 640) (k : Fin 1152), t (ix2 r k)
      = if r.val / 64 ≤ k.val % 384 / 32 ∧ k.val % 384 / 32 < r.val / 64 + 3
        then w (k.val / 384) (k.val % 384 / 32 - r.val / 64) (k.val % 32) (r.val % 64) else 0)
    (hP : ∀ (n : Fin 12) (r : Fin 384) (l : Fin 512), P n (ix2 r l) = H l.val n.val (r.val / 32) (r.val % 32))
    (r : Fin 640) (q : Fin 5120) :
    prod2 t (stack P) (ix2 r q) = Spec.conv2 (H (q.val % 512)) w (q.val / 512) (r.val / 64) (r.val % 64) := by
  rw [prod2_apply]
  simp only [slabs2_apply, stack_apply, ht, hP]
  rw [Sums.sum_fin 1152 (fun k => (if r.val / 64 ≤ k % 384 / 32 ∧ k % 384 / 32 < r.val / 64 + 3
      then w (k / 384) (k % 384 / 32 - r.val / 64) (k % 32) (r.val % 64) else 0)
    * H (q.val % 512) (q.val / 512 + k / 384) (k % 384 / 32) (k % 384 % 32))]
  rw [show (1152 : ℕ) = 3 * 384 from rfl, Sums.sum_split]
  unfold Spec.conv2
  refine Finset.sum_congr rfl fun p _ => ?_
  have hband := Sums.sum_band 12 (r.val / 64) (by omega)
    (fun v => ∑ d ∈ Finset.range 32, H (q.val % 512) (q.val / 512 + p) v d * w p (v - r.val / 64) d (r.val % 64))
  simp only [Nat.add_sub_cancel_left] at hband
  rw [← hband, show (384 : ℕ) = 12 * 32 from rfl, Sums.sum_split]
  refine Finset.sum_congr rfl fun v hv => ?_
  have hv := Finset.mem_range.mp hv
  have key : ∀ d ∈ Finset.range 32,
      ((if r.val / 64 ≤ (12 * 32 * p + (32 * v + d)) % (12 * 32) / 32 ∧ (12 * 32 * p + (32 * v + d)) % (12 * 32) / 32 < r.val / 64 + 3
        then w ((12 * 32 * p + (32 * v + d)) / (12 * 32)) ((12 * 32 * p + (32 * v + d)) % (12 * 32) / 32 - r.val / 64)
          ((12 * 32 * p + (32 * v + d)) % 32) (r.val % 64) else 0)
        * H (q.val % 512) (q.val / 512 + (12 * 32 * p + (32 * v + d)) / (12 * 32)) ((12 * 32 * p + (32 * v + d)) % (12 * 32) / 32)
          ((12 * 32 * p + (32 * v + d)) % (12 * 32) % 32))
      = if r.val / 64 ≤ v ∧ v < r.val / 64 + 3
        then H (q.val % 512) (q.val / 512 + p) v d * w p (v - r.val / 64) d (r.val % 64) else 0 := by
    intro d hd
    have hd := Finset.mem_range.mp hd
    have e1 : (12 * 32 * p + (32 * v + d)) % (12 * 32) / 32 = v := by omega
    have e2 : (12 * 32 * p + (32 * v + d)) / (12 * 32) = p := by omega
    have e3 : (12 * 32 * p + (32 * v + d)) % 32 = d := by omega
    have e4 : (12 * 32 * p + (32 * v + d)) % (12 * 32) % 32 = d := by omega
    rw [e1, e2, e3, e4, ite_mul, zero_mul, mul_comm]
  rw [Finset.sum_congr rfl key]
  split_ifs <;> simp

/-- The larger of two convolution rows and of two neighbouring columns. -/
def max2 (y : FVec Ideal S640x5120 .f32) (o0 o1 : ℕ)
    (h0 : S640x5120.Slices ![0, o0] S640x512) (h1 : S640x5120.Slices ![0, o1] S640x512) : FVec Ideal S320x512 .f32 :=
  shapeCast S320x512 (multiReduction (F := Ideal) (φ := .f32) .maximumf [1] S5x64x512
        (shapeCast S5x2x64x512 (maximumf (F := Ideal) (φ := .f32) (extractStridedSlice S640x512 ![0, o0] y h0) (extractStridedSlice S640x512 ![0, o1] y h1))
          shapeCasts_S640x512_S5x2x64x512) 0xFF800000#32 reduces_S5x2x64x512_S5x64x512 (.inl rfl) rfl)
        shapeCasts_S5x64x512_S320x512

/-- The bias and the rectification. -/
def relu2 (y : FVec Ideal S320x512 .f32) (b : FVec Ideal S320x512 .f32) : FVec Ideal S320x512 .bf16 :=
  truncf .bf16 (maximumf (addf y (shapeCast S320x512 b shapeCasts_S320x512_S320x512))
    (broadcast S320x512 (Scalar.ofBits .f32 0x00000000#32))) bitsLt_bf16_f32

/-- The maximum of the four entries of the window, then the bias and the rectification. -/
theorem pool2_apply (y : FVec Ideal S640x5120 .f32) (b : FVec Ideal S320x512 .f32) (o0 o1 : ℕ)
    (h0 : S640x5120.Slices ![0, o0] S640x512) (h1 : S640x5120.Slices ![0, o1] S640x512) (r : Fin 320) (l : Fin 512)
    (ho0 : o0 ≤ 4608) (ho1 : o1 ≤ 4608) :
    relu2 (max2 y o0 o1 h0 h1) b (ix2 r l) = max (max
      (max (y (ix2 ⟨r.val / 64 * 128 + r.val % 64, by omega⟩ ⟨o0 + l.val, by omega⟩)) (y (ix2 ⟨r.val / 64 * 128 + r.val % 64, by omega⟩ ⟨o1 + l.val, by omega⟩)))
      (max (y (ix2 ⟨r.val / 64 * 128 + 64 + r.val % 64, by omega⟩ ⟨o0 + l.val, by omega⟩)) (y (ix2 ⟨r.val / 64 * 128 + 64 + r.val % 64, by omega⟩ ⟨o1 + l.val, by omega⟩)))
      + b (ix2 r l)) 0 := by
  pointwise [relu2, max2]
  simp only [ofBits_bot]
  simp only [fold_two]
  simp

/-- A pooled row of the second round, read off the convolution. -/
theorem pool2_eq (C : ℕ → ℕ → ℕ → ℕ → EReal) (b2 : ℕ → EReal) (y : FVec Ideal S640x5120 .f32) (b : FVec Ideal S320x512 .f32)
    (hy : ∀ (r : Fin 640) (q : Fin 5120), y (ix2 r q) = C (q.val % 512) (q.val / 512) (r.val / 64) (r.val % 64))
    (hb : ∀ (r : Fin 320) (l : Fin 512), b (ix2 r l) = b2 (r.val % 64))
    (i : ℕ) (hi : i < 5)
    (h0 : S640x5120.Slices ![0, 1024 * i] S640x512) (h1 : S640x5120.Slices ![0, 1024 * i + 512] S640x512) (r : Fin 320) (l : Fin 512) :
    relu2 (max2 y (1024 * i) (1024 * i + 512) h0 h1) b (ix2 r l) = Spec.pool (C l.val) b2 i (r.val / 64) (r.val % 64) := by
  rw [pool2_apply _ _ _ _ _ _ _ _ (by omega) (by omega)]
  simp only [hy, hb, Spec.pool]
  have e1 : (1024 * i + l.val) % 512 = l.val := by omega
  have e2 : (1024 * i + 512 + l.val) % 512 = l.val := by omega
  have e3 : (1024 * i + l.val) / 512 = 2 * i := by omega
  have e4 : (1024 * i + 512 + l.val) / 512 = 2 * i + 1 := by omega
  have e5 : (r.val / 64 * 128 + r.val % 64) / 64 = 2 * (r.val / 64) := by omega
  have e6 : (r.val / 64 * 128 + 64 + r.val % 64) / 64 = 2 * (r.val / 64) + 1 := by omega
  have e7 : (r.val / 64 * 128 + r.val % 64) % 64 = r.val % 64 := by omega
  have e8 : (r.val / 64 * 128 + 64 + r.val % 64) % 64 = r.val % 64 := by omega
  rw [e1, e2, e3, e4, e5, e6, e7, e8]

/-- The five pooled rows stacked: the flattened features. -/
def flat (Q : Fin 5 → FVec Ideal S320x512 .bf16) : FVec Ideal S1600x512 .bf16 :=
  concatenate S1600x512 0 (List.ofFn fun n : Fin 5 => ⟨S320x512, Q n⟩)
    concatenates_S320x512_S320x512_S320x512_S320x512_S320x512_S1600x512_d0

/-- Feature `f` is entry `f % 320` of pooled row `f / 320`. -/
theorem flat_apply (Q : Fin 5 → FVec Ideal S320x512 .bf16) (f : Fin 1600) (l : Fin 512) :
    flat Q (ix2 f l) = Q ⟨f.val / 320, by omega⟩ (ix2 ⟨f.val % 320, by omega⟩ l) :=
  catRows (by norm_num) Q _ f l ⟨f.val / 320, by omega⟩ rfl

/-- The products of the stacked affine maps with the features. -/
def prod3 (t : FVec Ideal S55x1600 .bf16) (f : FVec Ideal S1600x512 .bf16) : FVec Ideal S55x512 .f32 :=
  matmul dot_S55x1600_S1600x512_S55x512_1_0_0_1_n_n none (shapeCast S55x1600 t shapeCasts_S55x1600_S55x1600)
    f (constant S55x512 .f32 0x00000000#32)

/-- The product, as a sum. -/
theorem prod3_apply (t : FVec Ideal S55x1600 .bf16) (f : FVec Ideal S1600x512 .bf16) (r : Fin 55) (l : Fin 512) :
    prod3 t f (ix2 r l) = ∑ k : Fin 1600, t (ix2 r k) * f (ix2 k l) := by
  pointwise [prod3]

/-- The logits, read off the products and the bias. -/
theorem logits_eq (H : ℕ → ℕ → ℕ → ℕ → EReal) (wh : ℕ → ℕ → EReal) (bh : ℕ → EReal) (t : FVec Ideal S55x1600 .bf16) (b : FVec Ideal S55x512 .f32)
    (Q : Fin 5 → FVec Ideal S320x512 .bf16)
    (ht : ∀ (r : Fin 55) (k : Fin 1600), t (ix2 r k) = wh r.val k.val) (hb : ∀ (r : Fin 55) (l : Fin 512), b (ix2 r l) = bh r.val)
    (hQ : ∀ (n : Fin 5) (r : Fin 320) (l : Fin 512), Q n (ix2 r l) = H l.val n.val (r.val / 64) (r.val % 64))
    (r : Fin 55) (l : Fin 512) :
    addf (F := Ideal) (φ := .f32) (prod3 t (flat Q)) (shapeCast S55x512 b shapeCasts_S55x512_S55x512) (ix2 r l)
      = Spec.affine (H l.val) (wh r.val) (bh r.val) := by
  pointwise
  rw [prod3_apply, hb]
  unfold Spec.affine
  congr 1
  rw [← Sums.sum_fin 1600 (fun f => wh r.val f * H l.val (f / 320) (f / 64 % 5) (f % 64))]
  refine Finset.sum_congr rfl fun k _ => ?_
  rw [ht, flat_apply, hQ]
  have e1 : k.val % 320 / 64 = k.val / 64 % 5 := by omega
  have e2 : k.val % 320 % 64 = k.val % 64 := by omega
  simp only [e1, e2]

end Cert.Proof
-- ==== Proof.Head.lean ====
/- What one block computes from its logits: the gate's softmax, the three largest weights, the mixture of the experts and
   the final softmax. -/
module

public import proofs.«01_k».proof.Proof.Gen.KernelIdeal.Skeleton
public import proofs.«01_k».proof.Proof.Spec
public import proofs.«01_k».proof.Proof.Cats

@[expose] public section

noncomputable section

namespace Cert.Proof

open Idealize.ShloMosaic Cert.KernelIdeal Cert.KernelIdeal.Gen

/-- The softmax of each column. -/
def softmaxCols {n : ℕ} (v : FVec Ideal ⟨2, ![n, 512]⟩ .f32) (hr : Shape.Reduces ⟨2, ![n, 512]⟩ [0] S512)
    (hb : S1x512.Broadcasts ⟨2, ![n, 512]⟩) : FVec Ideal ⟨2, ![n, 512]⟩ .f32 :=
  have x : FVec Ideal ⟨2, ![n, 512]⟩ .f32 := exp (subf v (broadcastTo ⟨2, ![n, 512]⟩ (shapeCast S1x512
    (multiReduction .maximumf [0] S512 v 0xFF800000#32 hr (.inl rfl) rfl) shapeCasts_S512_S1x512) hb))
  divf x (broadcastTo ⟨2, ![n, 512]⟩ (shapeCast S1x512 (multiReduction .add [0] S512 x 0x00000000#32 hr (.inl rfl) rfl)
    shapeCasts_S512_S1x512) hb)

/-- Each column of it is the softmax of that column. -/
theorem softmaxCols_apply {n : ℕ} (v : FVec Ideal ⟨2, ![n, 512]⟩ .f32) (hr : Shape.Reduces ⟨2, ![n, 512]⟩ [0] S512)
    (hb : S1x512.Broadcasts ⟨2, ![n, 512]⟩) (e : Fin n) (l : Fin 512) :
    softmaxCols v hr hb (ix2 e l) = Spec.softmax (fun k => v (ix2 k l)) e := by
  pointwise [softmaxCols]
  simp only [ofBits_bot]
  rfl

/-- A truth value as a number. -/
def bit (c : IVec S1x512 1) : FVec Ideal S1x512 .f32 := sitofp .f32 (extui 32 c natLt_1_32)

/-- A weight kept if fewer than three of four conditions hold, and zero otherwise. -/
def keep (g : FVec Ideal S1x512 .f32) (c0 c1 c2 c3 : IVec S1x512 1) : FVec Ideal S1x512 .f32 :=
  select (cmpf (F := Ideal) (φ := .f32) .olt (addf (F := Ideal) (φ := .f32) (addf (F := Ideal) (φ := .f32) (addf (F := Ideal) (φ := .f32)
      (addf (F := Ideal) (φ := .f32) (broadcast S1x512 (Scalar.ofBits .f32 0x00000000#32)) (bit c0)) (bit c1)) (bit c2)) (bit c3))
    (broadcast S1x512 (Scalar.ofBits .f32 0x40400000#32))) g (broadcast S1x512 (Scalar.ofBits .f32 0x00000000#32))

/-- A truth value's number is one or zero. -/
theorem number_ofBool (p : Prop) [Decidable p] :
    (FloatOps.sitofp (F := Ideal) FTy.f32 (BitVec.setWidth 32 (BitVec.ofBool (decide p))) : EReal) = ((if p then 1 else 0 : ℕ) : EReal) := by
  by_cases h : p
  · simp only [h, decide_true, if_true]
    show (((BitVec.setWidth 32 (BitVec.ofBool true)).toInt : ℝ) : EReal) = _
    rw [show (BitVec.setWidth 32 (BitVec.ofBool true)).toInt = 1 from by decide]
    norm_num
  · simp only [h, decide_false, if_false]
    show (((BitVec.setWidth 32 (BitVec.ofBool false)).toInt : ℝ) : EReal) = _
    rw [show (BitVec.setWidth 32 (BitVec.ofBool false)).toInt = 0 from by decide]
    norm_num

/-- The pattern of three denotes three. -/
theorem ofBits_three : Ideal.ofBits FTy.f32 0x40400000#32 = ((3 : ℕ) : EReal) := by
  have h : (3 : ℝ) = ((3 : ℕ) : ℝ) := by norm_num
  rw [show (((3 : ℕ) : EReal)) = (((3 : ℕ) : ℝ) : EReal) from rfl, ← h]
  simp [Ideal.ofBits, Ideal.ieee]
  rw [← EReal.coe_mul]
  norm_num

/-- The kept weight, the four conditions stated as propositions. -/
theorem keep_eq (g : FVec Ideal S1x512 .f32) (c0 c1 c2 c3 : IVec S1x512 1) (l : Fin 512) (p0 p1 p2 p3 : Prop)
    [Decidable p0] [Decidable p1] [Decidable p2] [Decidable p3]
    (h0 : c0 (ix2 0 l) = BitVec.ofBool (decide p0)) (h1 : c1 (ix2 0 l) = BitVec.ofBool (decide p1))
    (h2 : c2 (ix2 0 l) = BitVec.ofBool (decide p2)) (h3 : c3 (ix2 0 l) = BitVec.ofBool (decide p3)) :
    keep g c0 c1 c2 c3 (ix2 0 l)
      = if (if p0 then 1 else 0) + (if p1 then 1 else 0) + (if p2 then 1 else 0) + (if p3 then 1 else 0) < 3 then g (ix2 0 l) else 0 := by
  pointwise [keep, bit]
  rw [h0, h1, h2, h3]
  simp only [number_ofBool, ofBits_three]
  congr 1
  rw [← Nat.cast_add, ← Nat.cast_add, ← Nat.cast_add]
  exact propext EReal.natCast_lt_iff

/-- Row `e` of the gate's weights. -/
def gateRow (g : FVec Ideal S5x512 .f32) (e : ℕ) (h : S5x512.Slices ![e, 0] S1x512) : FVec Ideal S1x512 .f32 :=
  extractStridedSlice S1x512 ![e, 0] g h

/-- It holds the gate's weights of expert `e`. -/
theorem gateRow_apply (g : FVec Ideal S5x512 .f32) (e : ℕ) (h : S5x512.Slices ![e, 0] S1x512) (he : e < 5) (l : Fin 512) :
    gateRow g e h (ix2 0 l) = g (ix2 ⟨e, he⟩ l) := by
  pointwise [gateRow]

/-- The first row above the second. -/
def above (a b : FVec Ideal S1x512 .f32) : IVec S1x512 1 := cmpf (F := Ideal) (φ := .f32) .ogt a b

/-- It holds, at each sample, whether the first is larger. -/
theorem above_apply (a b : FVec Ideal S1x512 .f32) (l : Fin 512) :
    above a b (ix2 0 l) = BitVec.ofBool (decide (b (ix2 0 l) < a (ix2 0 l))) := by
  pointwise [above]

/-- The first row at least the second. -/
def atLeast (a b : FVec Ideal S1x512 .f32) : IVec S1x512 1 := cmpf (F := Ideal) (φ := .f32) .oge a b

/-- It holds, at each sample, whether the first is at least as large. -/
theorem atLeast_apply (a b : FVec Ideal S1x512 .f32) (l : Fin 512) :
    atLeast a b (ix2 0 l) = BitVec.ofBool (decide (b (ix2 0 l) ≤ a (ix2 0 l))) := by
  pointwise [atLeast]

/-- One expert's share of the mixture. -/
def share (k : FVec Ideal S1x512 .f32) (eo : FVec Ideal S50x512 .f32) (o : ℕ) (h : S50x512.Slices ![o, 0] S10x512) : FVec Ideal S10x512 .f32 :=
  mulf (broadcastTo S10x512 k broadcasts_S1x512_S10x512) (extractStridedSlice S10x512 ![o, 0] eo h)

/-- It is the weight times the expert's output, at each class and sample. -/
theorem share_apply (k : FVec Ideal S1x512 .f32) (eo : FVec Ideal S50x512 .f32) (o : ℕ) (h : S50x512.Slices ![o, 0] S10x512) (ho : o ≤ 40)
    (c : Fin 10) (l : Fin 512) : share k eo o h (ix2 c l) = k (ix2 0 l) * eo (ix2 ⟨o + c.val, by omega⟩ l) := by
  pointwise [share]

/-- The kept weight of each expert, every other one compared with it: those before it win ties. -/
def kept (g0 g1 g2 g3 g4 : FVec Ideal S1x512 .f32) : Fin 5 → FVec Ideal S1x512 .f32
  | 0 => keep g0 (above g1 g0) (above g2 g0) (above g3 g0) (above g4 g0)
  | 1 => keep g1 (atLeast g0 g1) (above g2 g1) (above g3 g1) (above g4 g1)
  | 2 => keep g2 (atLeast g0 g2) (atLeast g1 g2) (above g3 g2) (above g4 g2)
  | 3 => keep g3 (atLeast g0 g3) (atLeast g1 g3) (atLeast g2 g3) (above g4 g3)
  | 4 => keep g4 (atLeast g0 g4) (atLeast g1 g4) (atLeast g2 g4) (atLeast g3 g4)

/-- Being before another weight, for an earlier one. -/
theorem before_of_lt {n : ℕ} (g : Fin n → EReal) (j e : Fin n) (h : j < e) : (g e < g j ∨ (g j = g e ∧ j < e)) ↔ g e ≤ g j := by
  rw [le_iff_lt_or_eq]
  exact or_congr Iff.rfl ⟨fun h => h.1.symm, fun h' => ⟨h'.symm, h⟩⟩

/-- Being before another weight, for one which is not earlier. -/
theorem before_of_not_lt {n : ℕ} (g : Fin n → EReal) (j e : Fin n) (h : ¬ j < e) : (g e < g j ∨ (g j = g e ∧ j < e)) ↔ g e < g j :=
  ⟨fun h' => h'.elim id fun h'' => absurd h''.2 h, Or.inl⟩

/-- The kept weights are the specification's weights. -/
theorem kept_eq (g0 g1 g2 g3 g4 : FVec Ideal S1x512 .f32) (l : Fin 512) (G : Fin 5 → EReal)
    (h0 : g0 (ix2 0 l) = G 0) (h1 : g1 (ix2 0 l) = G 1) (h2 : g2 (ix2 0 l) = G 2) (h3 : g3 (ix2 0 l) = G 3) (h4 : g4 (ix2 0 l) = G 4)
    (e : Fin 5) : kept g0 g1 g2 g3 g4 e (ix2 0 l) = Spec.weight G e := by
  unfold Spec.weight Spec.rank
  rw [Finset.card_filter, Fin.sum_univ_five]
  match e with
  | 0 =>
    rw [kept, keep_eq _ _ _ _ _ _ _ _ _ _ (above_apply _ _ _) (above_apply _ _ _) (above_apply _ _ _) (above_apply _ _ _)]
    simp [h0, h1, h2, h3, h4]
  | 1 =>
    rw [kept, keep_eq _ _ _ _ _ _ _ _ _ _ (atLeast_apply _ _ _) (above_apply _ _ _) (above_apply _ _ _) (above_apply _ _ _)]
    rw [if_congr (before_of_lt G 0 1 (by decide)) rfl rfl]
    simp [h0, h1, h2, h3, h4]
  | 2 =>
    rw [kept, keep_eq _ _ _ _ _ _ _ _ _ _ (atLeast_apply _ _ _) (atLeast_apply _ _ _) (above_apply _ _ _) (above_apply _ _ _)]
    rw [if_congr (before_of_lt G 0 2 (by decide)) rfl rfl, if_congr (before_of_lt G 1 2 (by decide)) rfl rfl,
      if_congr (before_of_not_lt G 3 2 (by decide)) rfl rfl, if_congr (before_of_not_lt G 4 2 (by decide)) rfl rfl]
    simp [h0, h1, h2, h3, h4]
  | 3 =>
    rw [kept, keep_eq _ _ _ _ _ _ _ _ _ _ (atLeast_apply _ _ _) (atLeast_apply _ _ _) (atLeast_apply _ _ _) (above_apply _ _ _)]
    rw [if_congr (before_of_lt G 0 3 (by decide)) rfl rfl, if_congr (before_of_lt G 1 3 (by decide)) rfl rfl,
      if_congr (before_of_lt G 2 3 (by decide)) rfl rfl, if_congr (before_of_not_lt G 4 3 (by decide)) rfl rfl]
    simp [h0, h1, h2, h3, h4]
  | 4 =>
    rw [kept, keep_eq _ _ _ _ _ _ _ _ _ _ (atLeast_apply _ _ _) (atLeast_apply _ _ _) (atLeast_apply _ _ _) (atLeast_apply _ _ _)]
    rw [if_congr (before_of_lt G 0 4 (by decide)) rfl rfl, if_congr (before_of_lt G 1 4 (by decide)) rfl rfl,
      if_congr (before_of_lt G 2 4 (by decide)) rfl rfl, if_congr (before_of_lt G 3 4 (by decide)) rfl rfl]
    simp [h0, h1, h2, h3, h4]

/-- The mixture of the experts by the kept weights. -/
def mixCols (k : Fin 5 → FVec Ideal S1x512 .f32) (eo : FVec Ideal S50x512 .f32) : FVec Ideal S10x512 .f32 :=
  addf (addf (addf (addf (addf (broadcast S10x512 (Scalar.ofBits .f32 0x00000000#32))
    (share (k 0) eo 0 slices_S50x512_o0_0_S10x512)) (share (k 1) eo 10 slices_S50x512_o10_0_S10x512))
    (share (k 2) eo 20 slices_S50x512_o20_0_S10x512)) (share (k 3) eo 30 slices_S50x512_o30_0_S10x512))
    (share (k 4) eo 40 slices_S50x512_o40_0_S10x512)

/-- It is the sum over the experts of weight times output, at each class and sample. -/
theorem mixCols_apply (k : Fin 5 → FVec Ideal S1x512 .f32) (eo : FVec Ideal S50x512 .f32) (c : Fin 10) (l : Fin 512) :
    mixCols k eo (ix2 c l) = ∑ e : Fin 5, k e (ix2 0 l) * eo (ix2 ⟨10 * e.val + c.val, by omega⟩ l) := by
  pointwise [mixCols]
  rw [share_apply _ _ _ _ (by norm_num), share_apply _ _ _ _ (by norm_num), share_apply _ _ _ _ (by norm_num),
    share_apply _ _ _ _ (by norm_num), share_apply _ _ _ _ (by norm_num), Fin.sum_univ_five]
  simp

/-- The block's output from its logits. -/
def headCols (s : FVec Ideal S55x512 .f32) : FVec Ideal S10x512 .f32 :=
  have g : FVec Ideal S5x512 .f32 := softmaxCols (extractStridedSlice S5x512 ![50, 0] s slices_S55x512_o50_0_S5x512)
    reduces_S5x512_S512 broadcasts_S1x512_S5x512
  softmaxCols (mixCols (kept (gateRow g 0 slices_S5x512_o0_0_S1x512) (gateRow g 1 slices_S5x512_o1_0_S1x512)
      (gateRow g 2 slices_S5x512_o2_0_S1x512) (gateRow g 3 slices_S5x512_o3_0_S1x512) (gateRow g 4 slices_S5x512_o4_0_S1x512))
    (extractStridedSlice S50x512 ![0, 0] s slices_S55x512_o0_0_S50x512)) reduces_S10x512_S512 broadcasts_S1x512_S10x512

/-- The gate's logits are the last five rows. -/
theorem gateSlice_apply (s : FVec Ideal S55x512 .f32) (e : Fin 5) (l : Fin 512) :
    extractStridedSlice S5x512 ![50, 0] s slices_S55x512_o50_0_S5x512 (ix2 e l) = s (ix2 ⟨50 + e.val, by omega⟩ l) := by
  pointwise

/-- The experts' outputs are the first fifty rows. -/
theorem expertSlice_apply (s : FVec Ideal S55x512 .f32) (e : Fin 50) (l : Fin 512) :
    extractStridedSlice S50x512 ![0, 0] s slices_S55x512_o0_0_S50x512 (ix2 e l) = s (ix2 ⟨e.val, by omega⟩ l) := by
  pointwise

/-- Each column of it is the head of that column's logits. -/
theorem headCols_eq (s : FVec Ideal S55x512 .f32) (L : ℕ → EReal) (l : Fin 512) (hs : ∀ r : Fin 55, s (ix2 r l) = L r.val) (h : Fin 10) :
    headCols s (ix2 h l) = Spec.head L h := by
  unfold headCols
  refine (softmaxCols_apply _ _ _ _ _).trans ?_
  unfold Spec.head Spec.mix
  congr 1
  funext c
  refine (mixCols_apply _ _ c l).trans (Finset.sum_congr rfl fun e _ => ?_)
  have hg : ∀ (k : ℕ) (hk : k < 5) (hh : S5x512.Slices ![k, 0] S1x512),
      gateRow (softmaxCols (extractStridedSlice S5x512 ![50, 0] s slices_S55x512_o50_0_S5x512) reduces_S5x512_S512 broadcasts_S1x512_S5x512) k hh (ix2 0 l)
        = Spec.softmax (fun e : Fin 5 => L (50 + e.val)) ⟨k, hk⟩ := by
    intro k hk hh
    rw [gateRow_apply _ _ _ hk, softmaxCols_apply]
    congr 1
    funext e
    rw [gateSlice_apply, hs]
  rw [kept_eq _ _ _ _ _ l _ (hg 0 (by decide) _) (hg 1 (by decide) _) (hg 2 (by decide) _) (hg 3 (by decide) _) (hg 4 (by decide) _) e]
  rw [expertSlice_apply, hs]

end Cert.Proof
-- ==== Proof.Block.lean ====
/- What one block of the kernel writes is the network's output for each of its 512 samples. -/
module

public import proofs.«01_k».proof.Proof.Gen.KernelIdeal.Frame
public import proofs.«01_k».proof.Proof.Layer1
public import proofs.«01_k».proof.Proof.Layer2
public import proofs.«01_k».proof.Proof.Head
public import Idealize.ShloMosaic.Lib.Pipeline.Value

@[expose] public section

noncomputable section

namespace Cert.Proof

open Idealize.ShloMosaic Cert.KernelIdeal Cert.KernelIdeal.Gen

/-- The twelve slabs of 96 rows of either half of the images lie inside them. -/
theorem slices96 (n : Fin 12) : ∀ k : Fin 12, S896x512.Slices ![32 * (12 * (n.val / 6) + k.val), 0] S96x512 := by
  revert n; decide

/-- Each even column block of the first product lies inside it. -/
theorem slicesEven (n : Fin 12) : S768x6144.Slices ![0, 1024 * (n.val % 6)] S768x512 := by
  revert n; decide

/-- Each odd column block of the first product lies inside it. -/
theorem slicesOdd (n : Fin 12) : S768x6144.Slices ![0, 1024 * (n.val % 6) + 512] S768x512 := by
  revert n; decide

/-- Each even column block of the second product lies inside it. -/
theorem slicesEven' (n : Fin 5) : S640x5120.Slices ![0, 1024 * n.val] S640x512 := by
  revert n; decide

/-- Each odd column block of the second product lies inside it. -/
theorem slicesOdd' (n : Fin 5) : S640x5120.Slices ![0, 1024 * n.val + 512] S640x512 := by
  revert n; decide

/-- The twelve pooled rows of the first round: six from each of the two products. -/
def rows (x0 : FVec Ideal S512x896 .f32) (x1 : FVec Ideal S768x96 .bf16) (x4 : FVec Ideal S384x512 .f32) (n : Fin 12) :
    FVec Ideal S384x512 .bf16 :=
  pool1 (prod1 x1 (xT x0) (12 * (n.val / 6)) (slices96 n)) x4 (1024 * (n.val % 6)) (1024 * (n.val % 6) + 512) (slicesEven n) (slicesOdd n)

/-- The five pooled rows of the second round. -/
def rows2 (y : FVec Ideal S640x5120 .f32) (x5 : FVec Ideal S320x512 .f32) (n : Fin 5) : FVec Ideal S320x512 .bf16 :=
  relu2 (max2 y (1024 * n.val) (1024 * n.val + 512) (slicesEven' n) (slicesOdd' n)) x5

/-- What one block writes, from its seven input blocks. -/
def blockOut (x0 : FVec Ideal S512x896 .f32) (x1 : FVec Ideal S768x96 .bf16) (x2 : FVec Ideal S640x1152 .bf16) (x3 : FVec Ideal S55x1600 .bf16)
    (x4 : FVec Ideal S384x512 .f32) (x5 : FVec Ideal S320x512 .f32) (x6 : FVec Ideal S55x512 .f32) : FVec Ideal S10x512 .f32 :=
  headCols (addf (prod3 x3 (flat (rows2 (prod2 x2 (stack (rows x0 x1 x4))) x5))) (shapeCast S55x512 x6 shapeCasts_S55x512_S55x512))

/-- The second product, its twelve operands named. -/
theorem pay30_eq (P : Fin 12 → FVec Ideal S384x512 .bf16) (x2 : FVec Ideal S640x1152 .bf16) :
    k0_pay30 (F := Ideal) (P 7) (P 8) (P 9) (P 10) (P 11) (k0_pay23 (P 0)) (k0_pay24 (P 1)) (k0_pay25 (P 2)) (k0_pay26 (P 3))
      (k0_pay27 (P 4)) (k0_pay28 (P 5)) (k0_pay29 (P 6)) x2 = prod2 x2 (stack P) := rfl

/-- The products of the stacked affine maps with the features, from the second product. -/
theorem pay34_eq (P : Fin 12 → FVec Ideal S384x512 .bf16) (x2 : FVec Ideal S640x1152 .bf16) (x3 : FVec Ideal S55x1600 .bf16)
    (x5 : FVec Ideal S320x512 .f32) :
    k0_pay34 (F := Ideal)
      (k0_pay30 (P 7) (P 8) (P 9) (P 10) (P 11) (k0_pay23 (P 0)) (k0_pay24 (P 1)) (k0_pay25 (P 2)) (k0_pay26 (P 3))
        (k0_pay27 (P 4)) (k0_pay28 (P 5)) (k0_pay29 (P 6)) x2)
      (k0_pay31 (P 7) (P 8) (P 9) (P 10) (P 11) (k0_pay23 (P 0)) (k0_pay24 (P 1)) (k0_pay25 (P 2)) (k0_pay26 (P 3))
        (k0_pay27 (P 4)) (k0_pay28 (P 5)) (k0_pay29 (P 6)) x2 x5)
      (k0_pay32 (P 7) (P 8) (P 9) (P 10) (P 11) (k0_pay23 (P 0)) (k0_pay24 (P 1)) (k0_pay25 (P 2)) (k0_pay26 (P 3))
        (k0_pay27 (P 4)) (k0_pay28 (P 5)) (k0_pay29 (P 6)) x2)
      (k0_pay33 x5) x5 x5 x5 x3
      = prod3 x3 (flat (rows2 (prod2 x2 (stack P)) x5)) := by
  unfold k0_pay31 k0_pay32
  rw [pay30_eq]
  rfl

/-- The head, from the products and the bias. -/
theorem pay49_eq (s : FVec Ideal S55x512 .f32) (x6 : FVec Ideal S55x512 .f32) :
    k0_pay49 (F := Ideal) (k0_pay36 s x6) (k0_pay38 s x6) (k0_pay39 s x6) (k0_pay40 s x6) (k0_pay41 s x6) (k0_pay42 s x6)
      (k0_pay46 (k0_pay36 s x6) (k0_pay38 s x6) (k0_pay39 s x6) (k0_pay40 s x6) (k0_pay41 s x6) (k0_pay42 s x6)
        (k0_pay43 s x6) (k0_pay44 s x6) (k0_pay45 s x6))
      (k0_pay47 (k0_pay38 s x6) (k0_pay39 s x6) (k0_pay41 s x6)) (k0_pay48 (k0_pay40 s x6) (k0_pay41 s x6))
      = headCols (addf s (shapeCast S55x512 x6 shapeCasts_S55x512_S55x512)) := rfl

/-- The pair of zero offsets is the constant zero. -/
theorem zeros2 : (![0, 0] : Fin 2 → ℕ) = fun _ => 0 := by decide

/-- The block's stores leave `blockOut`. -/
theorem out_eq (x0 : FVec Ideal S512x896 .f32) (x1 : FVec Ideal S768x96 .bf16) (x2 : FVec Ideal S640x1152 .bf16) (x3 : FVec Ideal S55x1600 .bf16)
    (x4 : FVec Ideal S384x512 .f32) (x5 : FVec Ideal S320x512 .f32) (x6 : FVec Ideal S55x512 .f32) :
    out0_7 (F := Ideal) x0 x1 x2 x3 x4 x5 x6 = blockOut x0 x1 x2 x3 x4 x5 x6 := by
  unfold_out out0_7
  rw [View.canon_unit_zero zeros2]
  simp only [View.ld_unit_zero (S := S512x896) zeros2, View.ld_unit_zero (S := S768x96) zeros2, View.ld_unit_zero (S := S640x1152) zeros2,
    View.ld_unit_zero (S := S55x1600) zeros2, View.ld_unit_zero (S := S384x512) zeros2, View.ld_unit_zero (S := S320x512) zeros2,
    View.ld_unit_zero (S := S55x512) zeros2]
  refine (pay49_eq _ x6).trans ?_
  refine congrArg (fun s => headCols (addf s (shapeCast S55x512 x6 shapeCasts_S55x512_S55x512))) ?_
  exact pay34_eq (rows x0 x1 x4) x2 x3 x5

/-- The block's output is the network's, sample by sample: the image block holds one flattened image per row, the two band
    matrices the convolution kernels, the stacked matrix the affine maps, the last three blocks the biases. -/
theorem blockOut_eq (X : ℕ → ℕ → ℕ → EReal) (w1 : ℕ → ℕ → ℕ → EReal) (b1 : ℕ → EReal) (w2 : ℕ → ℕ → ℕ → ℕ → EReal) (b2 : ℕ → EReal)
    (wh : ℕ → ℕ → EReal) (bh : ℕ → EReal)
    (x0 : FVec Ideal S512x896 .f32) (x1 : FVec Ideal S768x96 .bf16) (x2 : FVec Ideal S640x1152 .bf16) (x3 : FVec Ideal S55x1600 .bf16)
    (x4 : FVec Ideal S384x512 .f32) (x5 : FVec Ideal S320x512 .f32) (x6 : FVec Ideal S55x512 .f32)
    (h0 : ∀ (l : Fin 512) (q : Fin 896), x0 (ix2 l q) = X l.val (q.val / 32) (q.val % 32))
    (h1 : ∀ (r : Fin 768) (k : Fin 96), x1 (ix2 r k)
      = if r.val / 32 ≤ k.val % 32 ∧ k.val % 32 < r.val / 32 + 3 then w1 (k.val / 32) (k.val % 32 - r.val / 32) (r.val % 32) else 0)
    (h2 : ∀ (r : Fin 640) (k : Fin 1152), x2 (ix2 r k)
      = if r.val / 64 ≤ k.val % 384 / 32 ∧ k.val % 384 / 32 < r.val / 64 + 3
        then w2 (k.val / 384) (k.val % 384 / 32 - r.val / 64) (k.val % 32) (r.val % 64) else 0)
    (h3 : ∀ (r : Fin 55) (k : Fin 1600), x3 (ix2 r k) = wh r.val k.val)
    (h4 : ∀ (r : Fin 384) (l : Fin 512), x4 (ix2 r l) = b1 (r.val % 32))
    (h5 : ∀ (r : Fin 320) (l : Fin 512), x5 (ix2 r l) = b2 (r.val % 64))
    (h6 : ∀ (r : Fin 55) (l : Fin 512), x6 (ix2 r l) = bh r.val) (h : Fin 10) (l : Fin 512) :
    blockOut x0 x1 x2 x3 x4 x5 x6 (ix2 h l) = Spec.out (X l.val) w1 b1 w2 b2 wh bh h := by
  have hr : ∀ (n : Fin 12) (r : Fin 384) (l : Fin 512), rows x0 x1 x4 n (ix2 r l)
      = Spec.pool (Spec.conv1 (X l.val) w1) b1 n.val (r.val / 32) (r.val % 32) := fun n r l =>
    pool1_eq (fun l => Spec.conv1 (X l) w1) b1 _ x4 (12 * (n.val / 6))
      (fun r q => prod1_eq X w1 x1 (xT x0) h1 (fun q l => (xT_apply x0 q l).trans (h0 l q)) _ (by omega) _ r q)
      h4 (n.val % 6) n.val (by omega) (by omega) _ _ r l
  have hp : ∀ (n : Fin 5) (r : Fin 320) (l : Fin 512), rows2 (prod2 x2 (stack (rows x0 x1 x4))) x5 n (ix2 r l)
      = Spec.feat (X l.val) w1 b1 w2 b2 n.val (r.val / 64) (r.val % 64) := fun n r l =>
    pool2_eq (fun l => Spec.conv2 (Spec.pool (Spec.conv1 (X l) w1) b1) w2) b2 _ x5
      (fun r q => prod2_eq (fun l => Spec.pool (Spec.conv1 (X l) w1) b1) w2 x2 (rows x0 x1 x4) h2 hr r q) h5 n.val (by omega) _ _ r l
  exact headCols_eq _ _ l (fun r => logits_eq (fun l => Spec.feat (X l) w1 b1 w2 b2) wh bh x3 x6 _ h3 h6 hp r l) h

end Cert.Proof
-- ==== Proof.HostArrays.lean ====
/- The arrays the launch finds: each window's array, built by the host from the arguments, as one term of them. -/
module

public import proofs.«01_k».proof.Proof.Gen.KernelIdeal.Frame
public import Idealize.ShloMosaic.Lib.Pointwise

@[expose] public section

noncomputable section

namespace Cert.Proof

open Idealize.ShloMosaic Idealize.ShloMosaic.TcCoe Cert.KernelIdeal Cert.KernelIdeal.Gen

/-- The images, each row padded with four zeros and the rows laid end to end. -/
def imageRows (x : FVec Ideal S4096x28x28x1 .f32) : FVec Ideal S4096x896 .f32 :=
  shapeCast S4096x896
    (pad S4096x28x32 ![0, 0, 0] ![0, 0, 4] ![0, 0, 0] (shapeCast S4096x28x28 x shapeCasts_S4096x28x28x1_S4096x28x28)
      (sitofp .f32 (constantI S_ 32 0#32)) pads_S4096x28x28_S4096x28x32_000_000_040 h_S_)
    shapeCasts_S4096x28x32_S4096x896

/-- One kernel row of the first convolution, spread as a band: row `32 j + c` holds its three taps from column `j`. -/
def band1 (w : FVec Ideal S3x3x1x32 .f32) (d : Nat) (h : S3x3x1x32.Slices ![d, 0, 0, 0] S1x3x1x32) : FVec Ideal S768x32 .f32 :=
  shapeCast S768x32
    (transpose S24x32x32 [0, 2, 1]
      (pad S24x32x32 ![0, 0, 0] ![0, 4, 0] ![0, 0, 0]
        (shapeCast S24x28x32
          (extractStridedSlice S672x32 ![0, 0]
            (shapeCast S696x32
              (pad S24x29x32 ![0, 0, 0] ![0, 26, 0] ![0, 0, 0]
                (broadcastInDim S24x3x32 ![1, 2] bcast_S3x32_S24x3x32_1_2
                  (shapeCast S3x32 (extractStridedSlice S1x3x1x32 ![d, 0, 0, 0] w h) shapeCasts_S1x3x1x32_S3x32))
                (sitofp .f32 (constantI S_ 32 0#32)) pads_S24x3x32_S24x29x32_000_0260_000 h_S_)
              shapeCasts_S24x29x32_S696x32)
            slices_S696x32_S672x32_0_0)
          shapeCasts_S672x32_S24x28x32)
        (sitofp .f32 (constantI S_ 32 0#32)) pads_S24x28x32_S24x32x32_000_040_000 h_S_)
      transposes_S24x32x32_S24x32x32_0_2_1)
    shapeCasts_S24x32x32_S768x32

/-- Three such bands side by side. -/
def side1 (a b c : FVec Ideal S768x32 .f32) : FVec Ideal S768x96 .bf16 :=
  truncf .bf16 (concatenate S768x96 1 [⟨S768x32, a⟩, ⟨S768x32, b⟩, ⟨S768x32, c⟩] concatenates_S768x32_S768x32_S768x32_S768x96_d1)
    bitsLt_bf16_f32

/-- One kernel row of the second convolution, spread as a band: row `64 j + c` holds its taps from column `j`. -/
def band2 (w : FVec Ideal S3x3x32x64 .f32) (d : Nat) (h : S3x3x32x64.Slices ![d, 0, 0, 0] S1x3x32x64) :
    FVec Ideal S640x384 .f32 :=
  shapeCast S640x384
    (transpose S10x64x12x32 [0, 3, 1, 2]
      (shapeCast S10x12x32x64
        (extractStridedSlice S120x32x64 ![0, 0, 0]
          (shapeCast S130x32x64
            (pad S10x13x32x64 ![0, 0, 0, 0] ![0, 10, 0, 0] ![0, 0, 0, 0]
              (broadcastInDim S10x3x32x64 ![1, 2, 3] bcast_S3x32x64_S10x3x32x64_1_2_3
                (shapeCast S3x32x64 (extractStridedSlice S1x3x32x64 ![d, 0, 0, 0] w h) shapeCasts_S1x3x32x64_S3x32x64))
              (sitofp .f32 (constantI S_ 32 0#32)) pads_S10x3x32x64_S10x13x32x64_000_0100_000_000 h_S_)
            shapeCasts_S10x13x32x64_S130x32x64)
          slices_S130x32x64_S120x32x64_0_0_0)
        shapeCasts_S120x32x64_S10x12x32x64)
      transposes_S10x12x32x64_S10x64x12x32_0_3_1_2)
    shapeCasts_S10x64x12x32_S640x384

/-- Three such bands side by side. -/
def side2 (a b c : FVec Ideal S640x384 .f32) : FVec Ideal S640x1152 .bf16 :=
  truncf .bf16 (concatenate S640x1152 1 [⟨S640x384, a⟩, ⟨S640x384, b⟩, ⟨S640x384, c⟩] concatenates_S640x384_S640x384_S640x384_S640x1152_d1)
    bitsLt_bf16_f32

/-- The head's weights: the experts' fifty rows above the gate's five. -/
def headRows (e : FVec Ideal S5x1600x10 .f32) (g : FVec Ideal S1600x5 .f32) : FVec Ideal S55x1600 .bf16 :=
  truncf .bf16
    (concatenate S55x1600 0
      [⟨S50x1600, shapeCast S50x1600 (transpose S5x10x1600 [0, 2, 1] e transposes_S5x1600x10_S5x10x1600_0_2_1) shapeCasts_S5x10x1600_S50x1600⟩,
        ⟨S5x1600, transpose S5x1600 [1, 0] g transposes_S1600x5_S5x1600_1_0⟩] concatenates_S50x1600_S5x1600_S55x1600_d0)
    bitsLt_bf16_f32

/-- The first bias, repeated down twelve columns and across the block. -/
def bias1 (b : FVec Ideal S32 .f32) : FVec Ideal S384x512 .f32 :=
  broadcastInDim S384x512 ![0, 1] bcast_S384x1_S384x512_0_1
    (broadcastInDim S384x1 ![0] bcast_S384_S384x1_0
      (shapeCast S384 (broadcastInDim S12x32 ![0, 1] bcast_S1x32_S12x32_0_1 (shapeCast S1x32 b shapeCasts_S32_S1x32)) shapeCasts_S12x32_S384))

/-- The second bias, repeated down five columns and across the block. -/
def bias2 (b : FVec Ideal S64 .f32) : FVec Ideal S320x512 .f32 :=
  broadcastInDim S320x512 ![0, 1] bcast_S320x1_S320x512_0_1
    (broadcastInDim S320x1 ![0] bcast_S320_S320x1_0
      (shapeCast S320 (broadcastInDim S5x64 ![0, 1] bcast_S1x64_S5x64_0_1 (shapeCast S1x64 b shapeCasts_S64_S1x64)) shapeCasts_S5x64_S320))

/-- The head's biases, the experts' above the gate's, across the block. -/
def headBias (e : FVec Ideal S5x10 .f32) (g : FVec Ideal S5 .f32) : FVec Ideal S55x512 .f32 :=
  broadcastInDim S55x512 ![0, 1] bcast_S55x1_S55x512_0_1
    (broadcastInDim S55x1 ![0] bcast_S55_S55x1_0
      (concatenate S55 0 [⟨S50, shapeCast S50 e shapeCasts_S5x10_S50⟩, ⟨S5, g⟩] concatenates_S50_S5_S55_d0))

variable (m : (ℓ : Loc nD τ sig) → Buf (Elt Ideal) ℓ) (c : Dev nD)

/-- The launch finds the images' rows. -/
theorem V_v2 : V (F := Ideal) m c main_v2 = imageRows (m ((c : Thread nD τ).loc main_arg0)) := by
  show StableHlo.after (List.flatten [hostOps0 (F := Ideal), hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) _ (Proc.devRef .tc main_v2) = _
  simp only [List.flatten_cons, List.flatten_nil, List.append_nil, List.cons_append, List.nil_append]
  after_results_simp
  rfl

/-- The launch finds the three bands of the first convolution. -/
theorem V_v34 : V (F := Ideal) m c main_v34 =
    side1 (band1 (m ((c : Thread nD τ).loc main_arg1)) 0 slices_S3x3x1x32_S1x3x1x32_0_0_0_0)
      (band1 (m ((c : Thread nD τ).loc main_arg1)) 1 slices_S3x3x1x32_S1x3x1x32_1_0_0_0)
      (band1 (m ((c : Thread nD τ).loc main_arg1)) 2 slices_S3x3x1x32_S1x3x1x32_2_0_0_0) := by
  show StableHlo.after (List.flatten [hostOps0 (F := Ideal), hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) _ (Proc.devRef .tc main_v34) = _
  simp only [List.flatten_cons, List.flatten_nil, List.append_nil, List.cons_append, List.nil_append]
  after_results_simp
  dsimp only [Matrix.cons_val_zero, Matrix.cons_val_one, Matrix.cons_val]
  show side1 _ _ _ = side1 _ _ _
  refine congr (congr (congrArg side1 ?_) ?_) ?_
  all_goals
    after_results_simp
    rfl

/-- The launch finds the three bands of the second convolution. -/
theorem V_v63 : V (F := Ideal) m c main_v63 =
    side2 (band2 (m ((c : Thread nD τ).loc main_arg3)) 0 slices_S3x3x32x64_S1x3x32x64_0_0_0_0)
      (band2 (m ((c : Thread nD τ).loc main_arg3)) 1 slices_S3x3x32x64_S1x3x32x64_1_0_0_0)
      (band2 (m ((c : Thread nD τ).loc main_arg3)) 2 slices_S3x3x32x64_S1x3x32x64_2_0_0_0) := by
  show StableHlo.after (List.flatten [hostOps0 (F := Ideal), hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) _ (Proc.devRef .tc main_v63) = _
  simp only [List.flatten_cons, List.flatten_nil, List.append_nil, List.cons_append, List.nil_append]
  after_results_simp
  dsimp only [Matrix.cons_val_zero, Matrix.cons_val_one, Matrix.cons_val]
  show side2 _ _ _ = side2 _ _ _
  refine congr (congr (congrArg side2 ?_) ?_) ?_
  all_goals
    after_results_simp
    rfl

/-- The launch finds the head's weights. -/
theorem V_v68 : V (F := Ideal) m c main_v68 =
    headRows (m ((c : Thread nD τ).loc main_arg7)) (m ((c : Thread nD τ).loc main_arg5)) := by
  show StableHlo.after (List.flatten [hostOps0 (F := Ideal), hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) _ (Proc.devRef .tc main_v68) = _
  simp only [List.flatten_cons, List.flatten_nil, List.append_nil, List.cons_append, List.nil_append]
  after_results_simp
  rfl

/-- The launch finds the first bias. -/
theorem V_v73 : V (F := Ideal) m c main_v73 = bias1 (m ((c : Thread nD τ).loc main_arg2)) := by
  show StableHlo.after (List.flatten [hostOps0 (F := Ideal), hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) _ (Proc.devRef .tc main_v73) = _
  simp only [List.flatten_cons, List.flatten_nil, List.append_nil, List.cons_append, List.nil_append]
  after_results_simp
  rfl

/-- The launch finds the second bias. -/
theorem V_v78 : V (F := Ideal) m c main_v78 = bias2 (m ((c : Thread nD τ).loc main_arg4)) := by
  show StableHlo.after (List.flatten [hostOps0 (F := Ideal), hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) _ (Proc.devRef .tc main_v78) = _
  simp only [List.flatten_cons, List.flatten_nil, List.append_nil, List.cons_append, List.nil_append]
  after_results_simp
  rfl

/-- The launch finds the head's biases. -/
theorem V_v82 : V (F := Ideal) m c main_v82 =
    headBias (m ((c : Thread nD τ).loc main_arg8)) (m ((c : Thread nD τ).loc main_arg6)) := by
  show StableHlo.after (List.flatten [hostOps0 (F := Ideal), hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) _ (Proc.devRef .tc main_v82) = _
  simp only [List.flatten_cons, List.flatten_nil, List.append_nil, List.cons_append, List.nil_append]
  after_results_simp
  rfl

end Cert.Proof
-- ==== Proof.Args.lean ====
/- The argument arrays read at natural-number positions, zero outside their bounds: what both programs start from. -/
module

public import proofs.«01_k».proof.Proof.Spec
public import Idealize.ShloMosaic.Lib.Pointwise

@[expose] public section

noncomputable section

namespace Cert.Proof

open Idealize.ShloMosaic

/-- A vector's entry, zero outside it. -/
def at1 {n : ℕ} (v : (⟨1, ![n]⟩ : Shape).Idx → EReal) (i : ℕ) : EReal := if h : i < n then v (ix1 ⟨i, h⟩) else 0

/-- A matrix's entry, zero outside it. -/
def at2 {n k : ℕ} (v : (⟨2, ![n, k]⟩ : Shape).Idx → EReal) (i j : ℕ) : EReal :=
  if h : i < n ∧ j < k then v (ix2 ⟨i, h.1⟩ ⟨j, h.2⟩) else 0

/-- An order-three array's entry, zero outside it. -/
def at3 {n k l : ℕ} (v : (⟨3, ![n, k, l]⟩ : Shape).Idx → EReal) (i j p : ℕ) : EReal :=
  if h : i < n ∧ j < k ∧ p < l then v (ix3 ⟨i, h.1⟩ ⟨j, h.2.1⟩ ⟨p, h.2.2⟩) else 0

/-- An order-four array's entry, zero outside it. -/
def at4 {n k l o : ℕ} (v : (⟨4, ![n, k, l, o]⟩ : Shape).Idx → EReal) (i j p q : ℕ) : EReal :=
  if h : i < n ∧ j < k ∧ p < l ∧ q < o then v (ix4 ⟨i, h.1⟩ ⟨j, h.2.1⟩ ⟨p, h.2.2.1⟩ ⟨q, h.2.2.2⟩) else 0

/-- Inside its bounds a vector's entry is the one at that index. -/
theorem at1_fin {n : ℕ} (v : (⟨1, ![n]⟩ : Shape).Idx → EReal) (i : Fin n) : v (ix1 i) = at1 v i.val := by
  rw [at1, dif_pos i.isLt]

/-- Inside its bounds a matrix's entry is the one at that index. -/
theorem at2_fin {n k : ℕ} (v : (⟨2, ![n, k]⟩ : Shape).Idx → EReal) (i : Fin n) (j : Fin k) : v (ix2 i j) = at2 v i.val j.val := by
  rw [at2, dif_pos ⟨i.isLt, j.isLt⟩]

/-- Inside its bounds an order-three array's entry is the one at that index. -/
theorem at3_fin {n k l : ℕ} (v : (⟨3, ![n, k, l]⟩ : Shape).Idx → EReal) (i : Fin n) (j : Fin k) (p : Fin l) :
    v (ix3 i j p) = at3 v i.val j.val p.val := by
  rw [at3, dif_pos ⟨i.isLt, j.isLt, p.isLt⟩]

/-- Inside its bounds an order-four array's entry is the one at that index. -/
theorem at4_fin {n k l o : ℕ} (v : (⟨4, ![n, k, l, o]⟩ : Shape).Idx → EReal) (i : Fin n) (j : Fin k) (p : Fin l) (q : Fin o) :
    v (ix4 i j p q) = at4 v i.val j.val p.val q.val := by
  rw [at4, dif_pos ⟨i.isLt, j.isLt, p.isLt, q.isLt⟩]

/-- The head's weights: row `10 e + h` is expert `e`'s class `h`, row `50 + e` the gate's expert `e`. -/
def headW (we : (⟨3, ![5, 1600, 10]⟩ : Shape).Idx → EReal) (wg : (⟨2, ![1600, 5]⟩ : Shape).Idx → EReal) (r f : ℕ) : EReal :=
  if r < 50 then at3 we (r / 10) f (r % 10) else at2 wg f (r - 50)

/-- The head's biases, in the same rows. -/
def headB (be : (⟨2, ![5, 10]⟩ : Shape).Idx → EReal) (bg : (⟨1, ![5]⟩ : Shape).Idx → EReal) (r : ℕ) : EReal :=
  if r < 50 then at2 be (r / 10) (r % 10) else at1 bg (r - 50)

/-- The network's output at sample `b` and class `h`, from the nine argument arrays. -/
def result (x : (⟨4, ![4096, 28, 28, 1]⟩ : Shape).Idx → EReal) (w1 : (⟨4, ![3, 3, 1, 32]⟩ : Shape).Idx → EReal)
    (b1 : (⟨1, ![32]⟩ : Shape).Idx → EReal) (w2 : (⟨4, ![3, 3, 32, 64]⟩ : Shape).Idx → EReal) (b2 : (⟨1, ![64]⟩ : Shape).Idx → EReal)
    (wg : (⟨2, ![1600, 5]⟩ : Shape).Idx → EReal) (bg : (⟨1, ![5]⟩ : Shape).Idx → EReal)
    (we : (⟨3, ![5, 1600, 10]⟩ : Shape).Idx → EReal) (be : (⟨2, ![5, 10]⟩ : Shape).Idx → EReal) (b : ℕ) (h : Fin 10) : EReal :=
  Spec.out (fun i j => at4 x b i j 0) (fun p q c => at4 w1 p q 0 c) (at1 b1) (at4 w2) (at1 b2) (headW we wg) (headB be bg) h

end Cert.Proof
-- ==== Proof.HostReads.lean ====
/- The launch's arrays at an index, as entries of the arguments. -/
module

public import proofs.«01_k».proof.Proof.HostArrays
public import proofs.«01_k».proof.Proof.Args

@[expose] public section

noncomputable section

namespace Cert.Proof

open Idealize.ShloMosaic Cert.KernelIdeal Cert.KernelIdeal.Gen

/-- The integer zero, converted, is zero. -/
theorem sitofp_zero : FloatOps.sitofp (F := Ideal) FTy.f32 0#32 = (0 : EReal) := by
  show ((((0#32 : BitVec 32).toInt : ℝ)) : EReal) = 0
  simp

/-- Row `r` of the images' rows: pixel `q / 32, q % 32` of sample `r`, zero in the padding. -/
theorem imageRows_apply (x : FVec Ideal S4096x28x28x1 .f32) (r : Fin 4096) (q : Fin 896) :
    imageRows x (ix2 r q) = at4 x r.val (q.val / 32) (q.val % 32) 0 := by
  pointwise [imageRows]
  simp only [sitofp_zero]
  split
  next h => exact at4_fin _ _ _ _ _
  next h => rw [at4, dif_neg (by omega)]

/-- Row `32 j + c` of a band holds kernel column `p` at column `j + p`, and zero elsewhere. -/
theorem band1_apply (w : FVec Ideal S3x3x1x32 .f32) (d : Nat) (h : S3x3x1x32.Slices ![d, 0, 0, 0] S1x3x1x32) (r : Fin 768) (k : Fin 32) :
    band1 w d h (ix2 r k) = if r.val / 32 ≤ k.val ∧ k.val < r.val / 32 + 3 then at4 w d (k.val - r.val / 32) 0 (r.val % 32) else 0 := by
  pointwise [band1]
  simp only [sitofp_zero, at4_fin]
  have hr := r.isLt
  have hk := k.isLt
  generalize hj : r.val / 32 = j
  have hj' : j < 24 := by omega
  by_cases hc : j ≤ k.val ∧ k.val < j + 3
  · have e : (j * 28 + k.val) / 29 = j ∧ (j * 28 + k.val) % 29 = k.val - j := by omega
    rw [if_pos hc, dif_pos (by omega), dif_pos (by omega)]
    simp only [e]
    rfl
  · rw [if_neg hc]
    split
    next h1 =>
      rw [dif_neg]
      rintro ⟨_, h3, _⟩
      omega
    next h1 => rfl

/-- Row `64 j + c` of a band holds kernel column `p`, channel `e` at column `32 (j + p) + e`, and zero elsewhere. -/
theorem band2_apply (w : FVec Ideal S3x3x32x64 .f32) (d : Nat) (h : S3x3x32x64.Slices ![d, 0, 0, 0] S1x3x32x64) (r : Fin 640) (k : Fin 384) :
    band2 w d h (ix2 r k)
      = if r.val / 64 ≤ k.val / 32 ∧ k.val / 32 < r.val / 64 + 3 then at4 w d (k.val / 32 - r.val / 64) (k.val % 32) (r.val % 64) else 0 := by
  pointwise [band2]
  simp only [sitofp_zero, at4_fin]
  have hr := r.isLt
  have hk := k.isLt
  generalize hj : r.val / 64 = j
  generalize hi : k.val / 32 = i
  have hj' : j < 10 := by omega
  have hi' : i < 12 := by omega
  by_cases hc : j ≤ i ∧ i < j + 3
  · have e : (j * 12 + i) / 13 = j ∧ (j * 12 + i) % 13 = i - j := by omega
    rw [if_pos hc, dif_pos (by omega)]
    simp only [e]
  · rw [if_neg hc, dif_neg]
    rintro ⟨_, h3, _⟩
    omega

/-- The first convolution's bands side by side. -/
theorem bands1_apply (w : FVec Ideal S3x3x1x32 .f32) (r : Fin 768) (k : Fin 96) :
    side1 (band1 w 0 slices_S3x3x1x32_S1x3x1x32_0_0_0_0) (band1 w 1 slices_S3x3x1x32_S1x3x1x32_1_0_0_0)
        (band1 w 2 slices_S3x3x1x32_S1x3x1x32_2_0_0_0) (ix2 r k)
      = if r.val / 32 ≤ k.val % 32 ∧ k.val % 32 < r.val / 32 + 3
        then at4 w (k.val / 32) (k.val % 32 - r.val / 32) 0 (r.val % 32) else 0 := by
  pointwise [side1]
  simp only [band1_apply]
  have hk := k.isLt
  split
  next h => rw [show k.val / 32 = 0 by omega, show k.val % 32 = k.val by omega]
  next h =>
    split
    next h' => rw [show k.val / 32 = 1 by omega, show k.val % 32 = k.val - 32 by omega]
    next h' => rw [show k.val / 32 = 2 by omega, show k.val % 32 = k.val - 32 - 32 by omega]

/-- The second convolution's bands side by side. -/
theorem bands2_apply (w : FVec Ideal S3x3x32x64 .f32) (r : Fin 640) (k : Fin 1152) :
    side2 (band2 w 0 slices_S3x3x32x64_S1x3x32x64_0_0_0_0) (band2 w 1 slices_S3x3x32x64_S1x3x32x64_1_0_0_0)
        (band2 w 2 slices_S3x3x32x64_S1x3x32x64_2_0_0_0) (ix2 r k)
      = if r.val / 64 ≤ k.val % 384 / 32 ∧ k.val % 384 / 32 < r.val / 64 + 3
        then at4 w (k.val / 384) (k.val % 384 / 32 - r.val / 64) (k.val % 32) (r.val % 64) else 0 := by
  pointwise [side2]
  simp only [band2_apply]
  have hk := k.isLt
  split
  next h => rw [show k.val / 384 = 0 by omega, show k.val % 384 = k.val by omega]
  next h =>
    split
    next h' => rw [show k.val / 384 = 1 by omega, show k.val % 384 = k.val - 384 by omega, show (k.val - 384) % 32 = k.val % 32 by omega]
    next h' =>
      rw [show k.val / 384 = 2 by omega, show k.val % 384 = k.val - 384 - 384 by omega, show (k.val - 384 - 384) % 32 = k.val % 32 by omega]

/-- The first bias's column: channel `r % 32`. -/
theorem bias1_apply (b : FVec Ideal S32 .f32) (r : Fin 384) (k : Fin 512) : bias1 b (ix2 r k) = at1 b (r.val % 32) := by
  pointwise [bias1]
  exact at1_fin _ _

/-- The second bias's column: channel `r % 64`. -/
theorem bias2_apply (b : FVec Ideal S64 .f32) (r : Fin 320) (k : Fin 512) : bias2 b (ix2 r k) = at1 b (r.val % 64) := by
  pointwise [bias2]
  exact at1_fin _ _

/-- The head's weights, row by row. -/
theorem headRows_apply (e : FVec Ideal S5x1600x10 .f32) (g : FVec Ideal S1600x5 .f32) (r : Fin 55) (k : Fin 1600) :
    headRows e g (ix2 r k) = headW e g r.val k.val := by
  pointwise [headRows]
  rw [headW]
  split
  next h => exact at3_fin _ _ _ _
  next h => exact at2_fin _ _ _

/-- The head's biases, row by row. -/
theorem headBias_apply (e : FVec Ideal S5x10 .f32) (g : FVec Ideal S5 .f32) (r : Fin 55) (k : Fin 512) :
    headBias e g (ix2 r k) = headB e g r.val := by
  pointwise [headBias]
  rw [headB]
  split
  next h => exact at2_fin _ _ _
  next h => exact at1_fin _ _

end Cert.Proof
-- ==== Proof.KernelRun.lean ====
/- The kernel's run: what its result array holds, at every sample and class. -/
module

public import proofs.«01_k».proof.Proof.Block
public import proofs.«01_k».proof.Proof.HostReads
public import Idealize.ShloMosaic.Lib.Pipeline.Value
public import Idealize.ShloMosaic.Lib.Pipeline.ValueKit.Geometry

@[expose] public section

noncomputable section

namespace Cert.Proof

open Idealize.ShloMosaic Idealize.ShloMosaic.TcCoe Cert.KernelIdeal Cert.KernelIdeal.Gen Idealize.SL.Sem

variable (m : (ℓ : Loc nD τ sig) → Buf (Elt Ideal) ℓ) (ρ : Dev nD → PrngReg) (c : Dev nD)

/-- The network's output from a device's nine argument arrays. -/
def answer (b : ℕ) (h : Fin 10) : EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) b h

/-- The region's result array: classes by samples. -/
def columns : FVec Ideal S10x4096 .f32 := fun i => answer m c (i 1).val (i 0)

/-- Point `t` sees block `t` of the images. -/
theorem index0 : ∀ t : Fin cfg0.N, win0_0.index t = ![t.val, 0] := by decide +kernel
/-- Every point sees the one block of operand 1. -/
theorem index1 : ∀ t : Fin cfg0.N, win0_1.index t = ![0, 0] := by decide +kernel
/-- Every point sees the one block of operand 2. -/
theorem index2 : ∀ t : Fin cfg0.N, win0_2.index t = ![0, 0] := by decide +kernel
/-- Every point sees the one block of operand 3. -/
theorem index3 : ∀ t : Fin cfg0.N, win0_3.index t = ![0, 0] := by decide +kernel
/-- Every point sees the one block of operand 4. -/
theorem index4 : ∀ t : Fin cfg0.N, win0_4.index t = ![0, 0] := by decide +kernel
/-- Every point sees the one block of operand 5. -/
theorem index5 : ∀ t : Fin cfg0.N, win0_5.index t = ![0, 0] := by decide +kernel
/-- Every point sees the one block of operand 6. -/
theorem index6 : ∀ t : Fin cfg0.N, win0_6.index t = ![0, 0] := by decide +kernel
/-- Point `t` writes column block `t` of the result. -/
theorem index7 : ∀ t : Fin cfg0.N, win0_7.index t = ![0, t.val] := by decide +kernel

/-- Point `t`'s images are the samples from `512 t`. -/
theorem iblk0 (t : Fin cfg0.N) (l : Fin 512) (q : Fin 896) :
    iblk m c 0 t (ix2 l q) = at4 (m ((c : Thread nD τ).loc main_arg0)) (512 * t.val + l.val) (q.val / 32) (q.val % 32) 0 := by
  have ht : t.val < 8 := t.isLt.trans_eq N_0
  refine Eq.trans ?_ (imageRows_apply _ (⟨512 * t.val + l.val, by omega⟩ : Fin 4096) q)
  rw [← V_v2]
  blk_ext [iblk, index0]

/-- Every point sees the whole of the first band matrix. -/
theorem iblk1 (t : Fin cfg0.N) (r : Fin 768) (k : Fin 96) : iblk m c 1 t (ix2 r k) = V m c main_v34 (ix2 r k) := by
  blk_ext [iblk, index1]
/-- Every point sees the whole of the second band matrix. -/
theorem iblk2 (t : Fin cfg0.N) (r : Fin 640) (k : Fin 1152) : iblk m c 2 t (ix2 r k) = V m c main_v63 (ix2 r k) := by
  blk_ext [iblk, index2]
/-- Every point sees the whole of the head's weights. -/
theorem iblk3 (t : Fin cfg0.N) (r : Fin 55) (k : Fin 1600) : iblk m c 3 t (ix2 r k) = V m c main_v68 (ix2 r k) := by
  blk_ext [iblk, index3]
/-- Every point sees the whole of the first biases. -/
theorem iblk4 (t : Fin cfg0.N) (r : Fin 384) (k : Fin 512) : iblk m c 4 t (ix2 r k) = V m c main_v73 (ix2 r k) := by
  blk_ext [iblk, index4]
/-- Every point sees the whole of the second biases. -/
theorem iblk5 (t : Fin cfg0.N) (r : Fin 320) (k : Fin 512) : iblk m c 5 t (ix2 r k) = V m c main_v78 (ix2 r k) := by
  blk_ext [iblk, index5]
/-- Every point sees the whole of the head's biases. -/
theorem iblk6 (t : Fin cfg0.N) (r : Fin 55) (k : Fin 512) : iblk m c 6 t (ix2 r k) = V m c main_v82 (ix2 r k) := by
  blk_ext [iblk, index6]

/-- What point `t` computes: the outputs of the samples from `512 t`. -/
theorem block_apply (t : Fin cfg0.N) (h : Fin 10) (l : Fin 512) :
    blockOut (iblk m c 0 t) (iblk m c 1 t) (iblk m c 2 t) (iblk m c 3 t) (iblk m c 4 t) (iblk m c 5 t) (iblk m c 6 t) (ix2 h l)
      = answer m c (512 * t.val + l.val) h :=
  blockOut_eq (fun l i j => at4 (m ((c : Thread nD τ).loc main_arg0)) (512 * t.val + l) i j 0)
    (fun p q c' => at4 (m ((c : Thread nD τ).loc main_arg1)) p q 0 c') _ _ _ _ _ _ _ _ _ _ _ _
    (iblk0 m c t)
    (fun r k => (iblk1 m c t r k).trans ((congrFun (V_v34 m c) _).trans (bands1_apply _ r k)))
    (fun r k => (iblk2 m c t r k).trans ((congrFun (V_v63 m c) _).trans (bands2_apply _ r k)))
    (fun r k => (iblk3 m c t r k).trans ((congrFun (V_v68 m c) _).trans (headRows_apply _ _ r k)))
    (fun r k => (iblk4 m c t r k).trans ((congrFun (V_v73 m c) _).trans (bias1_apply _ r k)))
    (fun r k => (iblk5 m c t r k).trans ((congrFun (V_v78 m c) _).trans (bias2_apply _ r k)))
    (fun r k => (iblk6 m c t r k).trans ((congrFun (V_v82 m c) _).trans (headBias_apply _ _ r k))) h l

/-- The same at any index of the block. -/
theorem block_at (t : Fin cfg0.N) (y : S10x512.Idx) :
    blockOut (iblk m c 0 t) (iblk m c 1 t) (iblk m c 2 t) (iblk m c 3 t) (iblk m c 4 t) (iblk m c 5 t) (iblk m c 6 t) y
      = answer m c (512 * t.val + (y 1).val) (y 0) := by
  have e : y = ix2 (y 0) (y 1) := funext fun a => by match a with | ⟨0, _⟩ => rfl | ⟨1, _⟩ => rfl
  conv_lhs => rw [e]
  exact block_apply m c t (y 0) (y 1)

/-- What point `t` writes back is its block of the outputs. -/
theorem flushed_eq (t : Fin cfg0.N) :
    (dats m 0 c).flushed 7 t = (win0_7.blk t).view.read (Elt Ideal) (columns m c) := by
  show (cfg0.win 7).cut (grid0.coords t) ((dats m 0 c).after 7 t) = _
  rw [after0_7, out_eq]
  funext y
  refine (block_at m c t y).trans ?_
  blk_simp [index7, columns]
  rw [Nat.mul_comm 512 t.val]
  refine congrArg (answer m c _) (Fin.ext ?_)
  blk_simp [index7]
  try omega

/-- Every index of the result array lies in some point's block. -/
theorem cover (i : S10x4096.Idx) : ∃ t : Fin cfg0.N, (cfg0.win 7).flush t = true ∧ i ∈ ((cfg0.win 7).blk t).view.set := by
  have h0 : (i 0 : ℕ) < 10 := (i 0).isLt
  have h1 : (i 1 : ℕ) < 4096 := (i 1).isLt
  have hN : cfg0.N = 8 := N_0
  refine ⟨⟨(i 1 : ℕ) / 512, by omega⟩, flush0_7 _, ?_⟩
  mem_blk [index7]
  dsimp
  omega

/-- So the region's result array ends holding the outputs. -/
theorem final_columns : (dats m 0 c).arrAt 7 cfg0.N = columns m c :=
  (dats m 0 c).arrAt_eq_of_cover 7 (columns m c) (fun t _ => flushed_eq m c t) cover

/-- The result: samples by classes. -/
def outputs : FVec Ideal S4096x10 .f32 := fun i => answer m c (i 0).val (i 1)

/-- The transposition after the region leaves the outputs, samples by classes. -/
theorem tail_eq : Pipeline.afterTail₀ cfgs (dats m) 0 (V0 m) [hostOps1] c main_v84 = outputs m c := by
  unfold Pipeline.afterTail₀
  show StableHlo.after (List.flatten [hostOps1 (F := Ideal)]) _ (Proc.devRef .tc main_v84) = _
  simp only [List.flatten_cons, List.flatten_nil, List.append_nil]
  after_results_simp
  have e := Pipeline.withArrays_arr spec0 (by decide) c (V0 m c) (fun w => (dats m 0 c).arrAt w cfg0.N) 7
  refine (congrArg (fun v => transpose S4096x10 [1, 0] v transposes_S10x4096_S4096x10_1_0) (e.trans (final_columns m c))).trans ?_
  funext i
  rfl

/-- The kernel's run: the result array at the outputs, the arguments unchanged. -/
theorem kernel_run : θ_run defs (onTc (τ := τ) (main (F := Ideal))) ⟨m, fun _ => 0, ρ⟩ (fun r => ∀ c : Dev nD,
      r.2.mem ((c.tc : Thread nD τ).loc main_v84) = outputs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
      ⟨((h c).2 main_v84 (Pipeline.mem_restRefs_of main_v84 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.Proof
-- ==== Proof.Windows.lean ====
/- The reference's maximum over 2×2 windows at stride two, read at a position. -/
module

public import proofs.«01_k».proof.Proof.Spec
public import Idealize.ShloMosaic.Lib.Pointwise

@[expose] public section

noncomputable section

namespace Cert.Proof

open Idealize.ShloMosaic

/-- The four offsets of a 2×2 window, in the order they are read. -/
theorem window_offset (n : Fin (⟨4, ![1, 2, 2, 1]⟩ : Shape).numel) (a : Fin 4) :
    ((⟨4, ![1, 2, 2, 1]⟩ : Shape).rowMajor.symm n a).val = ![0, n.val / 2, n.val % 2, 0] a := by
  revert n a; decide +kernel

/-- The window maximum at a position is the maximum of the four entries it covers. -/
theorem window_max {N H W C h w : ℕ} {u : Shape} (x : FVec Ideal ⟨4, ![N, H, W, C]⟩ .f32) (z : FVec Ideal u .f32)
    (hw : (⟨4, ![N, H, W, C]⟩ : Shape).ReduceWindows ![1, 2, 2, 1] ![1, 2, 2, 1] ![0, 0, 0, 0] ![0, 0, 0, 0] ⟨4, ![N, h, w, C]⟩)
    (hu : 0 < u.numel) (hz : z (Shape.Idx.first hu) = (⊥ : EReal)) (y : ℕ → ℕ → EReal) (b : Fin N) (i : Fin h) (j : Fin w) (c : Fin C)
    (hh : 2 * h ≤ H) (hww : 2 * w ≤ W) (hy : ∀ (p : Fin H) (q : Fin W), x (ix4 b p q c) = y p.val q.val) :
    Host.reduceWindow (FloatOps.maximumf (F := Ideal)) ![1, 2, 2, 1] ![1, 2, 2, 1] ![0, 0, 0, 0] ![0, 0, 0, 0] x z hw hu (ix4 b i j c)
      = max (max (y (2 * i) (2 * j)) (y (2 * i + 1) (2 * j))) (max (y (2 * i) (2 * j + 1)) (y (2 * i + 1) (2 * j + 1))) := by
  refine Eq.trans (b := (List.finRange (⟨4, ![1, 2, 2, 1]⟩ : Shape).numel).foldl
    (fun r n => max r (y (2 * i + n.val / 2) (2 * j + n.val % 2))) (z (Shape.Idx.first hu))) ?_ ?_
  · unfold Host.reduceWindow
    dsimp only
    congr 1
    funext r n
    have hn : n.val < 4 := n.isLt
    have hi := i.isLt
    have hj := j.isLt
    have hin : ∀ a : Fin 4, (![0, 0, 0, 0] : Fin 4 → ℕ) a ≤ (ix4 b i j c (Fin.cast hw.1.symm a)).val * (![1, 2, 2, 1] : Fin 4 → ℕ) a
              + ((⟨4, ![1, 2, 2, 1]⟩ : Shape).rowMajor.symm n a).val
            ∧ (ix4 b i j c (Fin.cast hw.1.symm a)).val * (![1, 2, 2, 1] : Fin 4 → ℕ) a
              + ((⟨4, ![1, 2, 2, 1]⟩ : Shape).rowMajor.symm n a).val - (![0, 0, 0, 0] : Fin 4 → ℕ) a < (![N, H, W, C] : Fin 4 → ℕ) a := by
      intro a
      rw [window_offset]
      fin_cases a
      · exact ⟨Nat.zero_le _, by show b.val * 1 + 0 - 0 < N; have := b.isLt; omega⟩
      · exact ⟨Nat.zero_le _, by show i.val * 2 + n.val / 2 - 0 < H; omega⟩
      · exact ⟨Nat.zero_le _, by show j.val * 2 + n.val % 2 - 0 < W; omega⟩
      · exact ⟨Nat.zero_le _, by show c.val * 1 + 0 - 0 < C; have := c.isLt; omega⟩
    refine congrArg (max r) ((dif_pos hin).trans (Eq.trans (congrArg x ?_) (hy ⟨2 * i + n.val / 2, by omega⟩ ⟨2 * j + n.val % 2, by omega⟩)))
    funext a
    refine Fin.ext ?_
    show (ix4 b i j c (Fin.cast hw.1.symm a)).val * (![1, 2, 2, 1] : Fin 4 → ℕ) a
              + ((⟨4, ![1, 2, 2, 1]⟩ : Shape).rowMajor.symm n a).val - (![0, 0, 0, 0] : Fin 4 → ℕ) a = _
    rw [window_offset]
    fin_cases a
    · show b.val * 1 + 0 - 0 = b.val; omega
    · show i.val * 2 + n.val / 2 - 0 = 2 * i.val + n.val / 2; omega
    · show j.val * 2 + n.val % 2 - 0 = 2 * j.val + n.val % 2; omega
    · show c.val * 1 + 0 - 0 = c.val; omega
  rw [hz]
  show max (max (max (max ⊥ (y (2 * i + 0) (2 * j + 0))) (y (2 * i + 0) (2 * j + 1))) (y (2 * i + 1) (2 * j + 0)))
    (y (2 * i + 1) (2 * j + 1)) = _
  simp only [add_zero, max_bot_left]
  rw [max_assoc, max_max_max_comm]

end Cert.Proof
-- ==== Proof.RefRounds.lean ====
/- What the reference computes in its two convolution rounds, at a position: the plain formulas. -/
module

public import proofs.«01_k».proof.Proof.Gen.ReferenceIdeal.Read
public import proofs.«01_k».proof.Proof.Args
public import proofs.«01_k».proof.Proof.Cats
public import proofs.«01_k».proof.Proof.Windows

@[expose] public section

noncomputable section

namespace Cert.Proof

open Idealize.ShloMosaic Cert.ReferenceIdeal Cert.ReferenceIdeal.Gen Cert.ReferenceIdeal.Read

/-- A sum of nine terms, three by three. -/
theorem sum_nine (f : ℕ → ℕ → EReal) :
    ∑ p ∈ Finset.range 3, ∑ q ∈ Finset.range 3, f p q
      = f 0 0 + f 0 1 + f 0 2 + f 1 0 + f 1 1 + f 1 2 + f 2 0 + f 2 1 + f 2 2 := by
  simp only [Finset.sum_range_succ, Finset.sum_range_zero, zero_add, ← add_assoc]

/-- The bias and the rectification commute with the maximum over a window. -/
theorem window_bias (p q r s b : EReal) :
    max (max (max (p + b) 0) (max (q + b) 0)) (max (max (r + b) 0) (max (s + b) 0)) = max (max (max p q) (max r s) + b) 0 := by
  have h : ∀ u v : EReal, max (max (u + b) 0) (max (v + b) 0) = max (max u v + b) 0 := fun u v => by
    rw [max_max_max_comm, max_self, max_add_add_right]
  rw [h, h, h]

/-- The first convolution, one input channel. -/
theorem ref_conv1 (x : FVec Ideal S4096x28x28x1 .f32) (w : FVec Ideal S3x3x1x32 .f32) (b : Fin 4096) (i j : Fin 26) (c : Fin 32) :
    val_main_v43 (F := Ideal) x w (ix4 b i j c) = Spec.conv1 (fun i j => at4 x b i j 0) (fun p q c => at4 w p q 0 c) i j c := by
  pointwise [val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v17, val_main_v18, val_main_v19, val_main_v20, val_main_v21, val_main_v22,
    val_main_v23, val_main_v24, val_main_v25, val_main_v26, val_main_v27, val_main_v28, val_main_v29,
    val_main_v30, val_main_v31, val_main_v32, val_main_v33, val_main_v34, val_main_v35, val_main_v36,
    val_main_v37, val_main_v38, val_main_v39, val_main_v40, val_main_v41, val_main_v42, val_main_v43]
  simp only [at4_fin, Fin.sum_univ_one]
  rw [Spec.conv1, sum_nine]
  simp only [Nat.add_comm 1, Nat.add_comm 2, add_zero]
  rfl

/-- The second convolution, from what its input holds. -/
theorem ref_conv2 (x : FVec Ideal S4096x28x28x1 .f32) (w1 : FVec Ideal S3x3x1x32 .f32) (b1 : FVec Ideal S32 .f32)
    (w : FVec Ideal S3x3x32x64 .f32) (y : ℕ → ℕ → ℕ → EReal) (b : Fin 4096)
    (hy : ∀ (i j : Fin 13) (c : Fin 32), val_main_v49 (F := Ideal) x w1 b1 (ix4 b i j c) = y i.val j.val c.val)
    (i j : Fin 11) (c : Fin 64) :
    val_main_v93 (F := Ideal) x w1 b1 w (ix4 b i j c) = Spec.conv2 y (at4 w) i j c := by
  pointwise [val_main_v50, val_main_v51, val_main_v52, val_main_v53, val_main_v54, val_main_v55, val_main_v56,
    val_main_v57, val_main_v58, val_main_v59, val_main_v60, val_main_v61, val_main_v62, val_main_v63,
    val_main_v64, val_main_v65, val_main_v66, val_main_v67, val_main_v68, val_main_v69, val_main_v70,
    val_main_v71, val_main_v72, val_main_v73, val_main_v74, val_main_v75, val_main_v76, val_main_v77,
    val_main_v78, val_main_v79, val_main_v80, val_main_v81, val_main_v82, val_main_v83, val_main_v84,
    val_main_v85, val_main_v86, val_main_v87, val_main_v88, val_main_v89, val_main_v90, val_main_v91,
    val_main_v92, val_main_v93]
  simp only [hy, at4_fin w]
  rw [Spec.conv2, sum_nine]
  simp only [Nat.add_comm 1, Nat.add_comm 2, add_zero, Finset.sum_range]
  rfl

/-- The first round: convolution, bias, rectification, window maximum. -/
theorem ref_round1 (x : FVec Ideal S4096x28x28x1 .f32) (w : FVec Ideal S3x3x1x32 .f32) (b1 : FVec Ideal S32 .f32) (b : Fin 4096)
    (i j : Fin 13) (c : Fin 32) :
    val_main_v49 (F := Ideal) x w b1 (ix4 b i j c)
      = Spec.pool (Spec.conv1 (fun i j => at4 x b i j 0) (fun p q c => at4 w p q 0 c)) (at1 b1) i j c := by
  rw [val_main_v49, window_max _ _ _ _ ofBits_bot
    (fun p q => max (Spec.conv1 (fun i j => at4 x b i j 0) (fun p q c => at4 w p q 0 c) p q c + at1 b1 c) 0) b i j c
    (by norm_num) (by norm_num), window_bias]
  · rfl
  · intro p q
    rw [val_main_v47_apply, val_main_v46_apply, ref_conv1]
    pointwise [val_main_v44, val_main_v45, val_main_call0_v0, val_main_call0_cst]
    rw [at1_fin b1]

/-- The second round, likewise: the features of sample `b`. -/
theorem ref_round2 (x : FVec Ideal S4096x28x28x1 .f32) (w1 : FVec Ideal S3x3x1x32 .f32) (b1 : FVec Ideal S32 .f32)
    (w2 : FVec Ideal S3x3x32x64 .f32) (b2 : FVec Ideal S64 .f32) (b : Fin 4096) (i j : Fin 5) (c : Fin 64) :
    val_main_v99 (F := Ideal) x w1 b1 w2 b2 (ix4 b i j c)
      = Spec.feat (fun i j => at4 x b i j 0) (fun p q c => at4 w1 p q 0 c) (at1 b1) (at4 w2) (at1 b2) i j c := by
  rw [val_main_v99, window_max _ _ _ _ ofBits_bot
    (fun p q => max (Spec.conv2 (Spec.pool (Spec.conv1 (fun i j => at4 x b i j 0) (fun p q c => at4 w1 p q 0 c)) (at1 b1))
      (at4 w2) p q c + at1 b2 c) 0) b i j c (by norm_num) (by norm_num), window_bias]
  · rfl
  · intro p q
    rw [val_main_v97_apply, val_main_v96_apply, ref_conv2 x w1 b1 w2 _ b (ref_round1 x w1 b1 b)]
    pointwise [val_main_v94, val_main_v95, val_main_call1_v0, val_main_call1_cst]
    rw [at1_fin b2]

end Cert.Proof
-- ==== Proof.TopThree.lean ====
/- Sorting positions by a decreasing key, ties in the order of the positions: the position the sort puts at `k` is
   the one of rank `k`, so a sum over the first sorted positions is a sum over the positions of small rank. -/
module

public import proofs.«01_k».proof.Proof.Spec
public import Idealize.ShloMosaic.Lib.SortFacts
public import Idealize.ShloMosaic.Lib.Pointwise

@[expose] public section

noncomputable section

namespace Cert.Proof

open Idealize.ShloMosaic

/-- Position `a` comes before position `b`: a larger key, or the same key and an earlier position. -/
def Ahead {n : ℕ} (g : Fin n → EReal) (a b : Fin n) : Prop := g b < g a ∨ (g a = g b ∧ a < b)

/-- Of two positions at most one comes before the other. -/
theorem Ahead.asymm {n : ℕ} {g : Fin n → EReal} {a b : Fin n} (h : Ahead g a b) : ¬ Ahead g b a := by
  rintro (h' | ⟨h', hlt⟩) <;> rcases h with h | ⟨h, hlt2⟩
  · exact lt_asymm h h'
  · exact absurd h' (h ▸ lt_irrefl _)
  · exact absurd h (h' ▸ lt_irrefl _)
  · exact lt_asymm hlt hlt2

/-- Putting a position ahead in the original order into an ordered list by key keeps it ordered. -/
theorem ordered_insert {n : ℕ} (g : Fin n → EReal) (before : Fin n → Fin n → Bool) (hb : ∀ a b, before a b = true ↔ g b < g a)
    (a : Fin n) (l : List (Fin n)) (ha : ∀ b ∈ l, a < b) (hl : l.Pairwise (Ahead g)) :
    (insertBefore before a l).Pairwise (Ahead g) := by
  induction l with
  | nil => exact List.pairwise_singleton _ _
  | cons b l ih =>
    obtain ⟨h1, h2⟩ := List.pairwise_cons.mp hl
    by_cases h : before b a = true
    · rw [insertBefore, if_pos h, List.pairwise_cons]
      refine ⟨fun x hx => ?_, ih (fun x hx => ha x (List.mem_cons_of_mem _ hx)) h2⟩
      rcases List.mem_cons.mp ((perm_insertBefore _ a l).mem_iff.mp hx) with rfl | hx
      · exact Or.inl ((hb _ _).mp h)
      · exact h1 x hx
    · rw [insertBefore, if_neg h, List.pairwise_cons]
      have hab : g b ≤ g a := not_lt.mp fun h' => h ((hb _ _).mpr h')
      refine ⟨fun x hx => ?_, hl⟩
      have hxb : g x ≤ g b := by
        rcases List.mem_cons.mp hx with rfl | hx'
        · exact le_rfl
        · rcases h1 x hx' with h3 | ⟨h3, -⟩
          · exact h3.le
          · exact h3.ge
      rcases (hxb.trans hab).lt_or_eq with h3 | h3
      · exact Or.inl h3
      · exact Or.inr ⟨h3.symm, ha x hx⟩

/-- The stable sort of an increasing list of positions is ordered. -/
theorem ordered_sort {n : ℕ} (g : Fin n → EReal) (before : Fin n → Fin n → Bool) (hb : ∀ a b, before a b = true ↔ g b < g a)
    (l : List (Fin n)) (hl : l.Pairwise (· < ·)) : (stableSort before l).Pairwise (Ahead g) := by
  induction l with
  | nil => exact List.Pairwise.nil
  | cons a l ih =>
    obtain ⟨h1, h2⟩ := List.pairwise_cons.mp hl
    rw [stableSort]
    exact ordered_insert g before hb a _ (fun b hm => h1 b ((perm_stableSort _ l).mem_iff.mp hm)) (ih h2)

/-- An earlier sorted position holds a position ahead of a later one's. -/
theorem sortedFrom_ahead {n : ℕ} (g : Fin n → EReal) (before : Fin n → Fin n → Bool) (hb : ∀ a b, before a b = true ↔ g b < g a)
    {i j : Fin n} (hij : i < j) : Ahead g (sortedFrom before i) (sortedFrom before j) :=
  List.pairwise_iff_get.mp (ordered_sort g before hb _ (List.pairwise_lt_finRange n)) _ _ hij

/-- The position sorted to place `k` has rank `k`. -/
theorem rank_sortedFrom {n : ℕ} (g : Fin n → EReal) (before : Fin n → Fin n → Bool) (hb : ∀ a b, before a b = true ↔ g b < g a)
    (k : Fin n) : Spec.rank g (sortedFrom before k) = k.val := by
  have hset : (Finset.univ.filter fun j => g (sortedFrom before k) < g j ∨ (g j = g (sortedFrom before k) ∧ j < sortedFrom before k))
      = (Finset.Iio k).map ⟨sortedFrom before, sortedFrom_injective before⟩ := by
    ext j
    obtain ⟨i, rfl⟩ := sortedFrom_surjective before j
    simp only [Finset.mem_filter, Finset.mem_univ, true_and, Finset.mem_map, Finset.mem_Iio, Function.Embedding.coeFn_mk]
    constructor
    · intro h
      refine ⟨i, ?_, rfl⟩
      rcases lt_trichotomy i k with h' | rfl | h'
      · exact h'
      · exact absurd h (Ahead.asymm h)
      · exact absurd h (Ahead.asymm (sortedFrom_ahead g before hb h'))
    · rintro ⟨i', hi, he⟩
      rw [sortedFrom_injective before he] at hi
      exact sortedFrom_ahead g before hb hi
  rw [Spec.rank, hset, Finset.card_map, Fin.card_Iio]

/-- Mixing by the three largest weights is summing over the first three sorted positions. -/
theorem sum_sorted {n : ℕ} (g : Fin n → EReal) (before : Fin n → Fin n → Bool) (hb : ∀ a b, before a b = true ↔ g b < g a)
    (h3 : 3 ≤ n) (f : Fin n → EReal) :
    ∑ k : Fin 3, g (sortedFrom before (k.castLE h3)) * f (sortedFrom before (k.castLE h3)) = ∑ e : Fin n, Spec.weight g e * f e := by
  have hbij := (sortedFrom_injective before).bijective_of_finite
  rw [← hbij.sum_comp fun e => Spec.weight g e * f e]
  have hw : ∀ k : Fin n, Spec.weight g (sortedFrom before k) * f (sortedFrom before k)
      = if k.val < 3 then g (sortedFrom before k) * f (sortedFrom before k) else 0 := by
    intro k
    rw [Spec.weight, rank_sortedFrom g before hb]
    split
    · rfl
    · exact zero_mul _
  rw [Finset.sum_congr rfl fun k _ => hw k, ← Finset.sum_filter]
  refine (Finset.sum_map Finset.univ (Fin.castLEEmb h3) fun k => g (sortedFrom before k) * f (sortedFrom before k)).symm.trans ?_
  refine Finset.sum_congr ?_ fun _ _ => rfl
  ext k
  simp only [Finset.mem_map, Finset.mem_univ, true_and, Finset.mem_filter]
  exact ⟨fun ⟨i, hi⟩ => hi ▸ i.isLt, fun h => ⟨⟨k.val, h⟩, rfl⟩⟩

end Cert.Proof
-- ==== Proof.RefHead.lean ====
/- What the reference computes after its features: the gate's and the experts' affine maps, the gate's softmax, the
   three largest weights with their experts' outputs taken along the expert axis, their mixture, the last softmax. -/
module

public import proofs.«01_k».proof.Proof.RefRounds
public import proofs.«01_k».proof.Proof.TopThree

@[expose] public section

noncomputable section

namespace Cert.Proof

open Idealize.ShloMosaic Cert.ReferenceIdeal Cert.ReferenceIdeal.Gen Cert.ReferenceIdeal.Read

/-- Whether the sort puts position `p` of a row before position `q`. -/
def goesFirst (x : FVec Ideal S4096x5 .f32) (b : Fin 4096) (p q : Fin 5) : Bool :=
  FloatOps.cmpfTotal (F := Ideal) (φ := .f32) .gt (x (ix2 b p)) (x (ix2 b q)) == 1#1

/-- It does exactly if its entry is larger. -/
theorem goesFirst_iff (x : FVec Ideal S4096x5 .f32) (b : Fin 4096) (p q : Fin 5) :
    goesFirst x b p q = true ↔ x (ix2 b q) < x (ix2 b p) := by
  show (BitVec.ofBool (decide (x (ix2 b q) < x (ix2 b p))) == 1#1) = true ↔ _
  by_cases h : x (ix2 b q) < x (ix2 b p) <;> simp [h]

/-- The expert in place `k` of a row sorted by decreasing weight. -/
def chosen (x : FVec Ideal S4096x5 .f32) (b : Fin 4096) (k : Fin 3) : Fin 5 :=
  sortedFrom (goesFirst x b) (k.castLE (by norm_num))

/-- An entry of a row along its axis. -/
theorem along_row (b : Fin 4096) (q p : Fin 5) : (ix2 b q : S4096x5.Idx).along 1 p = ix2 b p := by
  funext a
  fin_cases a <;> rfl

/-- The three largest values of a row. -/
theorem top_values (x : FVec Ideal S4096x5 .f32) (b : Fin 4096) (k : Fin 3) :
    (Host.topK S4096x3 1 (FloatOps.cmpfTotal (F := Ideal) (φ := .f32) .gt) x sliceFits_S4096x5_S4096x3).1 (ix2 b k)
      = x (ix2 b (chosen x b k)) := by
  unfold Host.topK Host.sort2
  pointwise
  simp only [along_row]
  rfl

/-- The positions of the three largest values of a row. -/
theorem top_indices (x : FVec Ideal S4096x5 .f32) (b : Fin 4096) (k : Fin 3) :
    (Host.topK S4096x3 1 (FloatOps.cmpfTotal (F := Ideal) (φ := .f32) .gt) x sliceFits_S4096x5_S4096x3).2 (ix2 b k)
      = BitVec.ofNat 32 (chosen x b k).val := by
  unfold Host.topK Host.sort2
  pointwise
  simp only [along_row]
  rfl

/-- A small index, read signed and clamped to the last expert, is itself. -/
theorem clamp_index (p : Fin 5) : min (BitVec.ofNat 32 p.val).toInt.toNat 4 = p.val := by
  revert p; decide

/-- Taking along the expert axis: the operand at the named expert, when the index is in range. -/
theorem take_apply (x : FVec Ideal S4096x5x10 .f32) (idx : IVec S4096x3x1 32) (b : Fin 4096) (k : Fin 3) (h : Fin 10) (p : Fin 5)
    (hp : idx (ix3 b k 0) = BitVec.ofNat 32 p.val) :
    Host.gather gather_S4096x5x10_S4096x3x1_S4096x3x10_2_1_0_0_1_2_1110 x idx (ix3 b k h) = x (ix3 b p h) := by
  refine congrArg x (funext fun a => Fin.ext ?_)
  let d := gather_S4096x5x10_S4096x3x1_S4096x3x10_2_1_0_0_1_2_1110
  show d.start (ix3 b k h) idx a + d.batchCoord (ix3 b k h) a + d.offCoord (ix3 b k h) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [d.start_batching _ _ _ (List.mem_singleton.mpr rfl),
      d.offCoord_eq_zero _ _ fun hm => ((d.mem_sKept _).mp hm).2 (List.mem_singleton.mpr rfl)]
    unfold GatherDims.batchCoord
    rw [dif_pos (show (0 : Fin 3) ∈ d.operandBatchingDims from List.mem_singleton.mpr rfl)]
    show 0 + b.val + 0 = b.val
    omega
  · rw [d.batchCoord_eq_zero _ _ (by decide),
      d.offCoord_eq_zero _ _ fun hm => ((d.mem_sKept _).mp hm).1 (List.mem_singleton.mpr rfl)]
    unfold GatherDims.start
    rw [dif_pos (show (1 : Fin 3) ∈ d.startIndexMap from List.mem_singleton.mpr rfl)]
    have hsi : d.siIdx (ix3 b k h) ⟨List.idxOf (1 : Fin 3) d.startIndexMap, List.idxOf_lt_length_iff.2 (List.mem_singleton.mpr rfl)⟩
        = ix3 b k 0 := by
      funext q
      refine Fin.ext ?_
      match q with
      | ⟨0, _⟩ => rfl
      | ⟨1, _⟩ => rfl
      | ⟨2, _⟩ => rfl
    rw [hsi, hp]
    exact clamp_index p
  · have hst : d.start (ix3 b k h) idx 2 = 0 := by
      unfold GatherDims.start
      exact dif_neg (by decide)
    rw [hst, d.batchCoord_eq_zero _ _ (by decide)]
    unfold GatherDims.offCoord
    rw [dif_pos ((d.mem_sKept _).mpr ⟨by decide, by decide⟩)]
    show 0 + 0 + h.val = h.val
    omega

/-- A small index is not negative, so it is taken as it stands. -/
theorem wrap_index (p : Fin 5) :
    Scalar.select (IntOp.cmpi .slt (BitVec.ofNat 32 p.val) 0#32) (IntOp.addi (BitVec.ofNat 32 p.val) 5#32) (BitVec.ofNat 32 p.val)
      = BitVec.ofNat 32 p.val := by
  revert p; decide

/-- A small index passes the bounds check. -/
theorem index_in_range (p : Fin 5) :
    IntOp.andi (IntOp.andi (IntOp.cmpi .sge (BitVec.ofNat 32 p.val) 0#32) (IntOp.cmpi .sle (BitVec.ofNat 32 p.val) 4#32)) 1#1 = 1#1 := by
  revert p; decide

section
variable (x0 : FVec Ideal S4096x28x28x1 .f32) (x1 : FVec Ideal S3x3x1x32 .f32) (x2 : FVec Ideal S32 .f32)
  (x3 : FVec Ideal S3x3x32x64 .f32) (x4 : FVec Ideal S64 .f32) (x5 : FVec Ideal S1600x5 .f32) (x6 : FVec Ideal S5 .f32)
  (x7 : FVec Ideal S5x1600x10 .f32) (x8 : FVec Ideal S5x10 .f32)

/-- The features of sample `b`, as the formulas of both rounds give them. -/
abbrev features (b : Fin 4096) : ℕ → ℕ → ℕ → EReal :=
  Spec.feat (fun i j => at4 x0 b i j 0) (fun p q c => at4 x1 p q 0 c) (at1 x2) (at4 x3) (at1 x4)

/-- The flattened features. -/
theorem ref_flat (b : Fin 4096) (f : Fin 1600) :
    val_main_v100 (F := Ideal) x0 x1 x2 x3 x4 (ix2 b f) = features x0 x1 x2 x3 x4 b (f.val / 320) (f.val / 64 % 5) (f.val % 64) := by
  pointwise [val_main_v100]
  exact ref_round2 x0 x1 x2 x3 x4 b _ _ _

/-- The gate's logits. -/
theorem ref_gate (b : Fin 4096) (e : Fin 5) :
    val_main_v104 (F := Ideal) x0 x1 x2 x3 x4 x5 x6 (ix2 b e)
      = Spec.affine (features x0 x1 x2 x3 x4 b) (headW x7 x5 (50 + e.val)) (headB x8 x6 (50 + e.val)) := by
  have hr : ¬ 50 + e.val < 50 := by omega
  pointwise [val_main_v101, val_main_v102, val_main_v103, val_main_v104]
  rw [Spec.affine, headB, if_neg hr, Nat.add_sub_cancel_left, at1_fin x6, Finset.sum_range]
  refine congrArg (· + _) (Finset.sum_congr rfl fun f _ => ?_)
  rw [ref_flat, headW, if_neg hr, Nat.add_sub_cancel_left, at2_fin x5, mul_comm]

/-- The experts' outputs. -/
theorem ref_experts (b : Fin 4096) (e : Fin 5) (h : Fin 10) :
    val_main_v119 (F := Ideal) x0 x1 x2 x3 x4 x7 x8 (ix3 b e h)
      = Spec.affine (features x0 x1 x2 x3 x4 b) (headW x7 x5 (10 * e.val + h.val)) (headB x8 x6 (10 * e.val + h.val)) := by
  have hr : 10 * e.val + h.val < 50 := by omega
  have hq : (10 * e.val + h.val) / 10 = e.val := by omega
  have hm : (10 * e.val + h.val) % 10 = h.val := by omega
  pointwise [val_main_v116, val_main_v117, val_main_v118, val_main_v119]
  rw [Spec.affine, headB, if_pos hr, hq, hm, at2_fin x8, Finset.sum_range]
  refine congrArg (· + _) (Finset.sum_congr rfl fun f _ => ?_)
  rw [ref_flat, headW, if_pos hr, hq, hm, at3_fin x7, mul_comm]

/-- The gate's weights are the softmax of its logits. -/
theorem ref_weights (b : Fin 4096) (e : Fin 5) :
    val_main_v115 (F := Ideal) x0 x1 x2 x3 x4 x5 x6 (ix2 b e)
      = Spec.softmax (fun e => val_main_v104 (F := Ideal) x0 x1 x2 x3 x4 x5 x6 (ix2 b e)) e := by
  pointwise [val_main_cst_1, val_main_cst_2, val_main_cst_3, val_main_v105, val_main_v106, val_main_v107, val_main_v108,
    val_main_v109, val_main_v110, val_main_v111, val_main_v112, val_main_v113, val_main_v114, val_main_v115]
  simp only [ofBits_bot, max_bot_left]
  rfl

/-- The index the reference takes along the expert axis: the chosen expert. -/
theorem ref_index (b : Fin 4096) (k : Fin 3) :
    val_main_call2_v4 (F := Ideal) x0 x1 x2 x3 x4 x5 x6 (ix3 b k 0)
      = BitVec.ofNat 32 (chosen (val_main_v115 (F := Ideal) x0 x1 x2 x3 x4 x5 x6) b k).val := by
  pointwise [val_main_call2_v4, val_main_call2_v3, val_main_call2_v2, val_main_call2_v1, val_main_call2_v0, val_main_call2_c,
    val_main_call2_c_0, val_main_v120]
  rw [val_main_indices, top_indices, wrap_index]

/-- The chosen experts' outputs. -/
theorem ref_taken (b : Fin 4096) (k : Fin 3) (h : Fin 10) :
    val_main_v121 (F := Ideal) x0 x1 x2 x3 x4 x5 x6 x7 x8 (ix3 b k h)
      = val_main_v119 (F := Ideal) x0 x1 x2 x3 x4 x7 x8 (ix3 b (chosen (val_main_v115 (F := Ideal) x0 x1 x2 x3 x4 x5 x6) b k) h) := by
  have hv := ref_index x0 x1 x2 x3 x4 x5 x6 b k
  pointwise [val_main_v121, val_main_call2_v13, val_main_call2_v14, val_main_call2_cst, val_main_call2_v11, val_main_call2_c_3,
    val_main_call2_v10, val_main_call2_v9, val_main_call2_v6, val_main_call2_v5, val_main_call2_v7, val_main_call2_v8,
    val_main_call2_c_1, val_main_call2_c_2]
  rw [Finset.univ_unique, Finset.fold_singleton]
  show Scalar.select (IntOp.andi (IntOp.andi (IntOp.cmpi .sge (val_main_call2_v4 (F := Ideal) x0 x1 x2 x3 x4 x5 x6 (ix3 b k 0)) 0#32)
    (IntOp.cmpi .sle (val_main_call2_v4 (F := Ideal) x0 x1 x2 x3 x4 x5 x6 (ix3 b k 0)) 4#32)) 1#1) _ _ = _
  rw [hv, index_in_range]
  exact (if_pos rfl).trans (take_apply _ _ b k h _ hv)

/-- The mixture of the experts' outputs by the three largest weights. -/
theorem ref_mix (b : Fin 4096) (h : Fin 10) :
    val_main_v125 (F := Ideal) x0 x1 x2 x3 x4 x5 x6 x7 x8 (ix2 b h)
      = Spec.mix (fun e => val_main_v115 (F := Ideal) x0 x1 x2 x3 x4 x5 x6 (ix2 b e))
          (fun e h => val_main_v119 (F := Ideal) x0 x1 x2 x3 x4 x7 x8 (ix3 b e h)) h := by
  pointwise [val_main_v125, val_main_cst_4, val_main_v124, val_main_v123, val_main_v122]
  refine Eq.trans (Finset.sum_congr rfl fun k _ => ?_)
    (sum_sorted (fun e => val_main_v115 (F := Ideal) x0 x1 x2 x3 x4 x5 x6 (ix2 b e))
      (goesFirst (val_main_v115 (F := Ideal) x0 x1 x2 x3 x4 x5 x6) b) (goesFirst_iff _ b) (by norm_num)
      fun e => val_main_v119 (F := Ideal) x0 x1 x2 x3 x4 x7 x8 (ix3 b e h))
  rw [ref_taken, val_main_values, top_values, mul_comm]
  rfl

/-- The result is the softmax of the mixture. -/
theorem ref_softmax (b : Fin 4096) (h : Fin 10) :
    val_main_v136 (F := Ideal) x0 x1 x2 x3 x4 x5 x6 x7 x8 (ix2 b h)
      = Spec.softmax (fun h => val_main_v125 (F := Ideal) x0 x1 x2 x3 x4 x5 x6 x7 x8 (ix2 b h)) h := by
  pointwise [val_main_cst_5, val_main_cst_6, val_main_cst_7, val_main_v126, val_main_v127, val_main_v128, val_main_v129,
    val_main_v130, val_main_v131, val_main_v132, val_main_v133, val_main_v134, val_main_v135, val_main_v136]
  simp only [ofBits_bot, max_bot_left]
  rfl

/-- The reference's result at sample `b` and class `h` is the network's output. -/
theorem ref_result (b : Fin 4096) (h : Fin 10) :
    val_main_v136 (F := Ideal) x0 x1 x2 x3 x4 x5 x6 x7 x8 (ix2 b h) = result x0 x1 x2 x3 x4 x5 x6 x7 x8 b.val h := by
  rw [ref_softmax, result, Spec.out, Spec.head]
  refine congrFun (congrArg Spec.softmax (funext fun h => ?_)) h
  rw [ref_mix]
  refine congrFun (congr (congrArg Spec.mix (funext fun e => ?_)) (funext fun e => funext fun h => ref_experts x0 x1 x2 x3 x4 x5 x6 x7 x8 b e h)) h
  rw [ref_weights]
  exact congrFun (congrArg Spec.softmax (funext fun e => ref_gate x0 x1 x2 x3 x4 x5 x6 x7 x8 b e)) e

end

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.RefHead
public import Idealize.ShloMosaic.Adequacy
public import Idealize.ShloMosaic.Init

@[expose] public section

noncomputable section

namespace Cert.Proof

open Idealize.ShloMosaic Idealize.SL.Sem Cert.Kernel

/-- The reference is a straight-line host program which declares no semaphore: its run ends with its arguments unchanged. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- What the reference's result array holds, from arguments equal to the kernel's: at every sample and class the
    network's output, as the kernel's does. -/
theorem ref_outputs (m : (ℓ : Loc Cert.KernelIdeal.nD Cert.KernelIdeal.τ Cert.KernelIdeal.sig) → Buf (Elt Ideal) ℓ) (c : Dev Cert.KernelIdeal.nD)
    (y0 : FVec Ideal Cert.ReferenceIdeal.S4096x28x28x1 .f32) (h0 : y0 = m ((c.tc : Thread Cert.KernelIdeal.nD Cert.KernelIdeal.τ).loc Cert.KernelIdeal.main_arg0))
    (y1 : FVec Ideal Cert.ReferenceIdeal.S3x3x1x32 .f32) (h1 : y1 = m ((c.tc : Thread Cert.KernelIdeal.nD Cert.KernelIdeal.τ).loc Cert.KernelIdeal.main_arg1))
    (y2 : FVec Ideal Cert.ReferenceIdeal.S32 .f32) (h2 : y2 = m ((c.tc : Thread Cert.KernelIdeal.nD Cert.KernelIdeal.τ).loc Cert.KernelIdeal.main_arg2))
    (y3 : FVec Ideal Cert.ReferenceIdeal.S3x3x32x64 .f32) (h3 : y3 = m ((c.tc : Thread Cert.KernelIdeal.nD Cert.KernelIdeal.τ).loc Cert.KernelIdeal.main_arg3))
    (y4 : FVec Ideal Cert.ReferenceIdeal.S64 .f32) (h4 : y4 = m ((c.tc : Thread Cert.KernelIdeal.nD Cert.KernelIdeal.τ).loc Cert.KernelIdeal.main_arg4))
    (y5 : FVec Ideal Cert.ReferenceIdeal.S1600x5 .f32) (h5 : y5 = m ((c.tc : Thread Cert.KernelIdeal.nD Cert.KernelIdeal.τ).loc Cert.KernelIdeal.main_arg5))
    (y6 : FVec Ideal Cert.ReferenceIdeal.S5 .f32) (h6 : y6 = m ((c.tc : Thread Cert.KernelIdeal.nD Cert.KernelIdeal.τ).loc Cert.KernelIdeal.main_arg6))
    (y7 : FVec Ideal Cert.ReferenceIdeal.S5x1600x10 .f32) (h7 : y7 = m ((c.tc : Thread Cert.KernelIdeal.nD Cert.KernelIdeal.τ).loc Cert.KernelIdeal.main_arg7))
    (y8 : FVec Ideal Cert.ReferenceIdeal.S5x10 .f32) (h8 : y8 = m ((c.tc : Thread Cert.KernelIdeal.nD Cert.KernelIdeal.τ).loc Cert.KernelIdeal.main_arg8)) :
    Cert.ReferenceIdeal.Read.val_main_v136 (F := Ideal) y0 y1 y2 y3 y4 y5 y6 y7 y8 = outputs m c := by
  subst h0 h1 h2 h3 h4 h5 h6 h7 h8
  funext i
  have hi : i = ix2 (i 0) (i 1) := by
    funext a
    fin_cases a <;> rfl
  rw [hi]
  exact ref_result _ _ _ _ _ _ _ _ _ (i 0) (i 1)

/-- The kernel and the reference end with equal results and unchanged arguments. -/
theorem equal_results : Cert.algebraic_KernelIdeal_ReferenceIdeal := fun m ρ m' ρ' _ hargs => by
  refine ⟨outputs m, kernel_run m ρ, ?_⟩
  refine (θ_run Cert.ReferenceIdeal.defs _ _).mono (fun r h c => ⟨?_, (h c).2⟩) (Cert.ReferenceIdeal.Value.run (F := Ideal) m' ρ')
  obtain ⟨h0, h1, h2, h3, h4, h5, h6, h7, h8⟩ := hargs c
  exact (h c).1.trans ((Cert.ReferenceIdeal.Read.val_main_v136_eq (StableHlo.launchContents m' c)).trans
    (ref_outputs m c _ h0 _ h1 _ h2 _ h3 _ h4 _ h5 _ h6 _ h7 _ h8))

/-- The three frames, the equality of the results, and that no operation was rewritten between the kernel and its idealization. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_ref, trivial, equal_results⟩

end Cert.Proof
